-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spikes_are_int8_values [hPre_spikes_are_int8_values : Cert.Pre_spikes_are_int8_values.Facts] (m : (ℓ : Loc Cert.KernelIdeal.nD Cert.KernelIdeal.τ Cert.KernelIdeal.sig) → Buf (Elt Ideal) ℓ) : Prop :=
  ∀ c : Dev Cert.KernelIdeal.nD,
    (Cert.Pre_spikes_are_int8_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spikes_are_int8_values [hPre_spikes_are_int8_values : Cert.Pre_spikes_are_int8_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spikes_are_int8_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_spikes_are_int8_values [hKernelIdeal : Cert.KernelIdeal.Facts] [hPre_spikes_are_int8_values : Cert.Pre_spikes_are_int8_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spikes_are_int8_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_spikes_are_int8_values [hReferenceIdeal : Cert.ReferenceIdeal.Facts] [hPre_spikes_are_int8_values : Cert.Pre_spikes_are_int8_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spikes_are_int8_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_spikes_are_int8_values [hKernelIdeal : Cert.KernelIdeal.Facts] [hReferenceIdeal : Cert.ReferenceIdeal.Facts] [hPre_spikes_are_int8_values : Cert.Pre_spikes_are_int8_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spikes_are_int8_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_spikes_are_int8_values : Cert.Pre_spikes_are_int8_values.Facts),
    quiescent_Kernel (hKernel := hKernel)
    ∧ quiescent_KernelIdeal (hKernelIdeal := hKernelIdeal)
    ∧ quiescent_KernelIdeal_pre_spikes_are_int8_values (hKernelIdeal := hKernelIdeal) (hPre_spikes_are_int8_values := hPre_spikes_are_int8_values)
    ∧ quiescent_ReferenceIdeal (hReferenceIdeal := hReferenceIdeal)
    ∧ quiescent_ReferenceIdeal_pre_spikes_are_int8_values (hReferenceIdeal := hReferenceIdeal) (hPre_spikes_are_int8_values := hPre_spikes_are_int8_values)
    ∧ preserves_Kernel_KernelIdeal
    ∧ algebraic_KernelIdeal_ReferenceIdeal_pre_spikes_are_int8_values (hKernelIdeal := hKernelIdeal) (hReferenceIdeal := hReferenceIdeal) (hPre_spikes_are_int8_values := hPre_spikes_are_int8_values)
-- ==== Pre_spikes_are_int8_values.lean ====
abbrev S32x2048x300 : Shape := ⟨3, ![32, 2048, 300]⟩
abbrev S1024x2048 : Shape := ⟨2, ![1024, 2048]⟩
abbrev S512x1024 : Shape := ⟨2, ![512, 1024]⟩

class Facts : Prop where
  natLt_8_32 : 8 < 32

variable [Facts]

def fn {F : FTy → Type} [FloatOps F] (main_arg0 : FVec F S32x2048x300 .f32) (main_arg1 : FVec F S1024x2048 .f32) (main_arg2 : FVec F S512x1024 .f32) : IVec S32x2048x300 1 :=
  let main_v0 : IVec S32x2048x300 32 := fptosi 32 main_arg0
  let main_v1 : IVec S32x2048x300 8 := (trunci 8 · natLt_8_32) main_v0
  let main_v2 : IVec S32x2048x300 32 := (extsi 32 · natLt_8_32) main_v1
  let main_v3 : FVec F S32x2048x300 .f32 := sitofp .f32 main_v2
  let main_v4 : IVec S32x2048x300 1 := cmpf .oeq main_v3 main_arg0
  main_v4
-- ==== Kernel.lean ====
abbrev S32x2048x300 : Shape := ⟨3, ![32, 2048, 300]⟩
abbrev S1024x2048 : Shape := ⟨2, ![1024, 2048]⟩
abbrev S512x1024 : Shape := ⟨2, ![512, 1024]⟩
abbrev S300x32x2048 : Shape := ⟨3, ![300, 32, 2048]⟩
abbrev S2048x1024 : Shape := ⟨2, ![2048, 1024]⟩
abbrev S300x32x1024 : Shape := ⟨3, ![300, 32, 1024]⟩
abbrev S25x32x2048 : Shape := ⟨3, ![25, 32, 2048]⟩
abbrev S25x32x1024 : Shape := ⟨3, ![25, 32, 1024]⟩
abbrev S32x1024 : Shape := ⟨2, ![32, 1024]⟩
abbrev S800x1024 : Shape := ⟨2, ![800, 1024]⟩
abbrev S800x2048 : Shape := ⟨2, ![800, 2048]⟩
abbrev S1x32x1024 : Shape := ⟨3, ![1, 32, 1024]⟩
abbrev S1024x512 : Shape := ⟨2, ![1024, 512]⟩
abbrev S300x32x512 : Shape := ⟨3, ![300, 32, 512]⟩
abbrev S25x32x512 : Shape := ⟨3, ![25, 32, 512]⟩
abbrev S32x512 : Shape := ⟨2, ![32, 512]⟩
abbrev S800x512 : Shape := ⟨2, ![800, 512]⟩
abbrev S1x32x512 : Shape := ⟨3, ![1, 32, 512]⟩
abbrev S32x512x300 : Shape := ⟨3, ![32, 512, 300]⟩

abbrev nBuf : Space → Nat
  | .hbm => 15
  | .vmem => 16
  | .smem => 0
  | _ => 0

abbrev bufTy : (tb : Table) → Fin (tcTables nBuf tb) → BufTy
  | .hbm, ⟨0, _⟩ => ⟨S32x2048x300, .f32⟩
  | .hbm, ⟨1, _⟩ => ⟨S1024x2048, .f32⟩
  | .hbm, ⟨2, _⟩ => ⟨S512x1024, .f32⟩
  | .hbm, ⟨3, _⟩ => ⟨S32x2048x300, .i32⟩
  | .hbm, ⟨4, _⟩ => ⟨S32x2048x300, .i8⟩
  | .hbm, ⟨5, _⟩ => ⟨S300x32x2048, .i8⟩
  | .hbm, ⟨6, _⟩ => ⟨S2048x1024, .f32⟩
  | .hbm, ⟨7, _⟩ => ⟨S2048x1024, .bf16⟩
  | .hbm, ⟨8, _⟩ => ⟨S300x32x1024, .i8⟩
  | .hbm, ⟨9, _⟩ => ⟨S1024x512, .f32⟩
  | .hbm, ⟨10, _⟩ => ⟨S1024x512, .bf16⟩
  | .hbm, ⟨11, _⟩ => ⟨S300x32x512, .i8⟩
  | .hbm, ⟨12, _⟩ => ⟨S32x512x300, .i8⟩
  | .hbm, ⟨13, _⟩ => ⟨S32x512x300, .i32⟩
  | .hbm, ⟨14, _⟩ => ⟨S32x512x300, .f32⟩
  | .local _ .vmem, ⟨0, _⟩ => ⟨S25x32x2048, .i8⟩
  | .local _ .vmem, ⟨1, _⟩ => ⟨S25x32x2048, .i8⟩
  | .local _ .vmem, ⟨2, _⟩ => ⟨S2048x1024, .bf16⟩
  | .local _ .vmem, ⟨3, _⟩ => ⟨S25x32x1024, .i8⟩
  | .local _ .vmem, ⟨4, _⟩ => ⟨S25x32x1024, .i8⟩
  | .local _ .vmem, ⟨5, _⟩ => ⟨S32x1024, .f32⟩
  | .local _ .vmem, ⟨6, _⟩ => ⟨S32x1024, .f32⟩
  | .local _ .vmem, ⟨7, _⟩ => ⟨S800x1024, .f32⟩
  | .local _ .vmem, ⟨8, _⟩ => ⟨S25x32x1024, .i8⟩
  | .local _ .vmem, ⟨9, _⟩ => ⟨S25x32x1024, .i8⟩
  | .local _ .vmem, ⟨10, _⟩ => ⟨S1024x512, .bf16⟩
  | .local _ .vmem, ⟨11, _⟩ => ⟨S25x32x512, .i8⟩
  | .local _ .vmem, ⟨12, _⟩ => ⟨S25x32x512, .i8⟩
  | .local _ .vmem, ⟨13, _⟩ => ⟨S32x512, .f32⟩
  | .local _ .vmem, ⟨14, _⟩ => ⟨S32x512, .f32⟩
  | .local _ .vmem, ⟨15, _⟩ => ⟨S800x512, .f32⟩
  | _, _ => ⟨S32x2048x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![1, 1, 12], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

abbrev stage0_0 : Fin 2 → Memref sig .tc .vmem S25x32x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S25x32x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![1, 1, 12], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

abbrev stage1_0 : Fin 2 → Memref sig .tc .vmem S25x32x1024 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, false]

abbrev stage1_2 : Fin 2 → Memref sig .tc .vmem S25x32x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]
-- ==== ReferenceIdeal.lean ====
abbrev S32x2048x300 : Shape := ⟨3, ![32, 2048, 300]⟩
abbrev S1024x2048 : Shape := ⟨2, ![1024, 2048]⟩
abbrev S512x1024 : Shape := ⟨2, ![512, 1024]⟩
abbrev S1024x32x300 : Shape := ⟨3, ![1024, 32, 300]⟩
abbrev S32x1024x300 : Shape := ⟨3, ![32, 1024, 300]⟩
abbrev S300x32x1024 : Shape := ⟨3, ![300, 32, 1024]⟩
abbrev S_ : Shape := ⟨0, ![]⟩
abbrev S32x1024 : Shape := ⟨2, ![32, 1024]⟩
abbrev S1x32x1024 : Shape := ⟨3, ![1, 32, 1024]⟩
abbrev S512x32x300 : Shape := ⟨3, ![512, 32, 300]⟩
abbrev S32x512x300 : Shape := ⟨3, ![32, 512, 300]⟩
abbrev S300x32x512 : Shape := ⟨3, ![300, 32, 512]⟩
abbrev S32x512 : Shape := ⟨2, ![32, 512]⟩
abbrev S1x32x512 : Shape := ⟨3, ![1, 32, 512]⟩

abbrev nBuf : Space → Nat
  | .hbm => 119
  | .vmem => 0
  | .smem => 0
  | _ => 0

abbrev bufTy : (tb : Table) → Fin (tcTables nBuf tb) → BufTy
  | .hbm, ⟨0, _⟩ => ⟨S32x2048x300, .f32⟩
  | .hbm, ⟨1, _⟩ => ⟨S1024x2048, .f32⟩
  | .hbm, ⟨2, _⟩ => ⟨S512x1024, .f32⟩
  | .hbm, ⟨3, _⟩ => ⟨S1024x32x300, .f32⟩
  | .hbm, ⟨4, _⟩ => ⟨S32x1024x300, .f32⟩
  | .hbm, ⟨5, _⟩ => ⟨S300x32x1024, .f32⟩
  | .hbm, ⟨6, _⟩ => ⟨S_, .f32⟩
  | .hbm, ⟨7, _⟩ => ⟨S32x1024, .f32⟩
  | .hbm, ⟨8, _⟩ => ⟨S_, .f32⟩
  | .hbm, ⟨9, _⟩ => ⟨S300x32x1024, .f32⟩
  | .hbm, ⟨10, _⟩ => ⟨S_, .i32⟩
  | .hbm, ⟨11, _⟩ => ⟨S300x32x1024, .f32⟩
  | .hbm, ⟨12, _⟩ => ⟨S_, .i32⟩
  | .hbm, ⟨13, _⟩ => ⟨S32x1024, .f32⟩
  | .hbm, ⟨14, _⟩ => ⟨S32x1024, .f32⟩
  | .hbm, ⟨15, _⟩ => ⟨S300x32x1024, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1x32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x1024, .f32⟩
  | .hbm, ⟨27, _⟩ => ⟨S_, .f32⟩
  | .hbm, ⟨28, _⟩ => ⟨S32x1024, .f32⟩
  | .hbm, ⟨29, _⟩ => ⟨S32x1024, .f32⟩
  | .hbm, ⟨30, _⟩ => ⟨S_, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S32x1024, .f32⟩
  | .hbm, ⟨35, _⟩ => ⟨S_, .f32⟩
  | .hbm, ⟨36, _⟩ => ⟨S32x1024, .f32⟩
  | .hbm, ⟨37, _⟩ => ⟨S32x1024, .f32⟩
  | .hbm, ⟨38, _⟩ => ⟨S_, .f32⟩
  | .hbm, ⟨39, _⟩ => ⟨S32x1024, .f32⟩
  | .hbm, ⟨40, _⟩ => ⟨S32x1024, .f32⟩
  | .hbm, ⟨41, _⟩ => ⟨S_, .f32⟩
  | .hbm, ⟨42, _⟩ => ⟨S32x1024, .f32⟩
  | .hbm, ⟨43, _⟩ => ⟨S32x1024, .i1⟩
  | .hbm, ⟨44, _⟩ => ⟨S32x1024, .f32⟩
  | .hbm, ⟨45, _⟩ => ⟨S32x1024, .f32⟩
  | .hbm, ⟨46, _⟩ => ⟨S32x1024, .f32⟩
  | .hbm, ⟨47, _⟩ => ⟨S_, .f32⟩
  | .hbm, ⟨48, _⟩ => ⟨S32x1024, .f32⟩
  | .hbm, ⟨49, _⟩ => ⟨S32x1024, .f32⟩
  | .hbm, ⟨50, _⟩ => ⟨S_, .f32⟩
  | .hbm, ⟨51, _⟩ => ⟨S32x1024, .f32⟩
  | .hbm, ⟨52, _⟩ => ⟨S32x1024, .f32⟩
  | .hbm, ⟨53, _⟩ => ⟨S32x1024, .f32⟩
  | .hbm, ⟨54, _⟩ => ⟨S1x32x1024, .f32⟩
  | .hbm, ⟨55, _⟩ => ⟨S_, .i32⟩
  | .hbm, ⟨56, _⟩ => ⟨S_, .i32⟩
  | .hbm, ⟨57, _⟩ => ⟨S300x32x1024, .f32⟩
  | .hbm, ⟨58, _⟩ => ⟨S_, .i32⟩
  | .hbm, ⟨59, _⟩ => ⟨S_, .i32⟩
  | .hbm, ⟨60, _⟩ => ⟨S32x1024x300, .f32⟩
  | .hbm, ⟨61, _⟩ => ⟨S512x32x300, .f32⟩
  | .hbm, ⟨62, _⟩ => ⟨S32x512x300, .f32⟩
  | .hbm, ⟨63, _⟩ => ⟨S300x32x512, .f32⟩
  | .hbm, ⟨64, _⟩ => ⟨S_, .f32⟩
  | .hbm, ⟨65, _⟩ => ⟨S32x512, .f32⟩
  | .hbm, ⟨66, _⟩ => ⟨S_, .f32⟩
  | .hbm, ⟨67, _⟩ => ⟨S300x32x512, .f32⟩
  | .hbm, ⟨68, _⟩ => ⟨S_, .i32⟩
  | .hbm, ⟨69, _⟩ => ⟨S300x32x512, .f32⟩
  | .hbm, ⟨70, _⟩ => ⟨S_, .i32⟩
  | .hbm, ⟨71, _⟩ => ⟨S32x512, .f32⟩
  | .hbm, ⟨72, _⟩ => ⟨S32x512, .f32⟩
  | .hbm, ⟨73, _⟩ => ⟨S300x32x512, .f32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S1x32x512, .f32⟩
  | .hbm, ⟨79, _⟩ => ⟨S32x512, .f32⟩
  | .hbm, ⟨80, _⟩ => ⟨S_, .f32⟩
  | .hbm, ⟨81, _⟩ => ⟨S32x512, .f32⟩
  | .hbm, ⟨82, _⟩ => ⟨S32x512, .f32⟩
  | .hbm, ⟨83, _⟩ => ⟨S32x512, .f32⟩
  | .hbm, ⟨84, _⟩ => ⟨S32x512, .f32⟩
  | .hbm, ⟨85, _⟩ => ⟨S_, .f32⟩
  | .hbm, ⟨86, _⟩ => ⟨S32x512, .f32⟩
  | .hbm, ⟨87, _⟩ => ⟨S32x512, .f32⟩
  | .hbm, ⟨88, _⟩ => ⟨S_, .f32⟩
  | .hbm, ⟨89, _⟩ => ⟨S32x512, .f32⟩
  | .hbm, ⟨90, _⟩ => ⟨S32x512, .f32⟩
  | .hbm, ⟨91, _⟩ => ⟨S32x512, .f32⟩
  | .hbm, ⟨92, _⟩ => ⟨S32x512, .f32⟩
  | .hbm, ⟨93, _⟩ => ⟨S_, .f32⟩
  | .hbm, ⟨94, _⟩ => ⟨S32x512, .f32⟩
  | .hbm, ⟨95, _⟩ => ⟨S32x512, .f32⟩
  | .hbm, ⟨96, _⟩ => ⟨S_, .f32⟩
  | .hbm, ⟨97, _⟩ => ⟨S32x512, .f32⟩
  | .hbm, ⟨98, _⟩ => ⟨S32x512, .f32⟩
  | .hbm, ⟨99, _⟩ => ⟨S_, .f32⟩
  | .hbm, ⟨100, _⟩ => ⟨S32x512, .f32⟩
  | .hbm, ⟨101, _⟩ => ⟨S32x512, .i1⟩
  | .hbm, ⟨102, _⟩ => ⟨S32x512, .f32⟩
  | .hbm, ⟨103, _⟩ => ⟨S32x512, .f32⟩
  | .hbm, ⟨104, _⟩ => ⟨S32x512, .f32⟩
  | .hbm, ⟨105, _⟩ => ⟨S_, .f32⟩
  | .hbm, ⟨106, _⟩ => ⟨S32x512, .f32⟩
  | .hbm, ⟨107, _⟩ => ⟨S32x512, .f32⟩
  | .hbm, ⟨108, _⟩ => ⟨S_, .f32⟩
  | .hbm, ⟨109, _⟩ => ⟨S32x512, .f32⟩
  | .hbm, ⟨110, _⟩ => ⟨S32x512, .f32⟩
  | .hbm, ⟨111, _⟩ => ⟨S32x512, .f32⟩
  | .hbm, ⟨112, _⟩ => ⟨S1x32x512, .f32⟩
  | .hbm, ⟨113, _⟩ => ⟨S_, .i32⟩
  | .hbm, ⟨114, _⟩ => ⟨S_, .i32⟩
  | .hbm, ⟨115, _⟩ => ⟨S300x32x512, .f32⟩
  | .hbm, ⟨116, _⟩ => ⟨S_, .i32⟩
  | .hbm, ⟨117, _⟩ => ⟨S_, .i32⟩
  | .hbm, ⟨118, _⟩ => ⟨S32x512x300, .f32⟩
  | _, _ => ⟨S32x2048x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_c : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_while0c_c_8 : Ref sig .tc := ⟨.hbm, 16, rfl⟩
abbrev main_while0c_v14 : Ref sig .tc := ⟨.hbm, 17, rfl⟩
abbrev main_while0b_call0_c : Ref sig .tc := ⟨.hbm, 18, rfl⟩
abbrev main_while0b_call0_c_0 : Ref sig .tc := ⟨.hbm, 19, rfl⟩
abbrev main_while0b_call0_v0 : Ref sig .tc := ⟨.hbm, 20, rfl⟩
abbrev main_while0b_v14 : Ref sig .tc := ⟨.hbm, 21, rfl⟩
abbrev main_while0b_cst_8 : Ref sig .tc := ⟨.hbm, 22, rfl⟩
abbrev main_while0b_v15 : Ref sig .tc := ⟨.hbm, 23, rfl⟩
abbrev main_while0b_v16 : Ref sig .tc := ⟨.hbm, 24, rfl⟩
abbrev main_while0b_v17 : Ref sig .tc := ⟨.hbm, 25, rfl⟩
abbrev main_while0b_v18 : Ref sig .tc := ⟨.hbm, 26, rfl⟩
abbrev main_while0b_cst_9 : Ref sig .tc := ⟨.hbm, 27, rfl⟩
abbrev main_while0b_v19 : Ref sig .tc := ⟨.hbm, 28, rfl⟩
abbrev main_while0b_v20 : Ref sig .tc := ⟨.hbm, 29, rfl⟩
abbrev main_while0b_cst_10 : Ref sig .tc := ⟨.hbm, 30, rfl⟩
abbrev main_while0b_v21 : Ref sig .tc := ⟨.hbm, 31, rfl⟩
abbrev main_while0b_v22 : Ref sig .tc := ⟨.hbm, 32, rfl⟩
abbrev main_while0b_v23 : Ref sig .tc := ⟨.hbm, 33, rfl⟩
abbrev main_while0b_v24 : Ref sig .tc := ⟨.hbm, 34, rfl⟩
abbrev main_while0b_cst_11 : Ref sig .tc := ⟨.hbm, 35, rfl⟩
abbrev main_while0b_v25 : Ref sig .tc := ⟨.hbm, 36, rfl⟩
abbrev main_while0b_v26 : Ref sig .tc := ⟨.hbm, 37, rfl⟩
abbrev main_while0b_cst_12 : Ref sig .tc := ⟨.hbm, 38, rfl⟩
abbrev main_while0b_v27 : Ref sig .tc := ⟨.hbm, 39, rfl⟩
abbrev main_while0b_v28 : Ref sig .tc := ⟨.hbm, 40, rfl⟩
abbrev main_while0b_cst_13 : Ref sig .tc := ⟨.hbm, 41, rfl⟩
abbrev main_while0b_v29 : Ref sig .tc := ⟨.hbm, 42, rfl⟩
abbrev main_while0b_v30 : Ref sig .tc := ⟨.hbm, 43, rfl⟩
abbrev main_while0b_v31 : Ref sig .tc := ⟨.hbm, 44, rfl⟩
abbrev main_while0b_v32 : Ref sig .tc := ⟨.hbm, 45, rfl⟩
abbrev main_while0b_v33 : Ref sig .tc := ⟨.hbm, 46, rfl⟩
abbrev main_while0b_cst_14 : Ref sig .tc := ⟨.hbm, 47, rfl⟩
abbrev main_while0b_v34 : Ref sig .tc := ⟨.hbm, 48, rfl⟩
abbrev main_while0b_v35 : Ref sig .tc := ⟨.hbm, 49, rfl⟩
abbrev main_while0b_cst_15 : Ref sig .tc := ⟨.hbm, 50, rfl⟩
abbrev main_while0b_v36 : Ref sig .tc := ⟨.hbm, 51, rfl⟩
abbrev main_while0b_v37 : Ref sig .tc := ⟨.hbm, 52, rfl⟩
abbrev main_while0b_v38 : Ref sig .tc := ⟨.hbm, 53, rfl⟩
abbrev main_while0b_call1_v0 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_v39 : Ref sig .tc := ⟨.hbm, 57, rfl⟩
abbrev main_while0b_c_16 : Ref sig .tc := ⟨.hbm, 58, rfl⟩
abbrev main_while0b_v40 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_cst_1 : Ref sig .tc := ⟨.hbm, 64, rfl⟩
abbrev main_v10 : Ref sig .tc := ⟨.hbm, 65, rfl⟩
abbrev main_cst_2 : Ref sig .tc := ⟨.hbm, 66, rfl⟩
abbrev main_v11 : Ref sig .tc := ⟨.hbm, 67, rfl⟩
abbrev main_c_3 : Ref sig .tc := ⟨.hbm, 68, rfl⟩
abbrev main_v12_0 : Ref sig .tc := ⟨.hbm, 69, rfl⟩
abbrev main_v12_1 : Ref sig .tc := ⟨.hbm, 70, rfl⟩
abbrev main_v12_2 : Ref sig .tc := ⟨.hbm, 71, rfl⟩
abbrev main_v12_3 : Ref sig .tc := ⟨.hbm, 72, rfl⟩
abbrev main_v12_4 : Ref sig .tc := ⟨.hbm, 73, rfl⟩
abbrev main_while1c_c_8 : Ref sig .tc := ⟨.hbm, 74, rfl⟩
abbrev main_while1c_v14 : Ref sig .tc := ⟨.hbm, 75, rfl⟩
abbrev main_while1b_call2_c : Ref sig .tc := ⟨.hbm, 76, rfl⟩
abbrev main_while1b_call2_c_0 : Ref sig .tc := ⟨.hbm, 77, rfl⟩
abbrev main_while1b_call2_v0 : Ref sig .tc := ⟨.hbm, 78, rfl⟩
abbrev main_while1b_v14 : Ref sig .tc := ⟨.hbm, 79, rfl⟩
abbrev main_while1b_cst_8 : Ref sig .tc := ⟨.hbm, 80, rfl⟩
abbrev main_while1b_v15 : Ref sig .tc := ⟨.hbm, 81, rfl⟩
abbrev main_while1b_v16 : Ref sig .tc := ⟨.hbm, 82, rfl⟩
abbrev main_while1b_v17 : Ref sig .tc := ⟨.hbm, 83, rfl⟩
abbrev main_while1b_v18 : Ref sig .tc := ⟨.hbm, 84, rfl⟩
abbrev main_while1b_cst_9 : Ref sig .tc := ⟨.hbm, 85, rfl⟩
abbrev main_while1b_v19 : Ref sig .tc := ⟨.hbm, 86, rfl⟩
abbrev main_while1b_v20 : Ref sig .tc := ⟨.hbm, 87, rfl⟩
abbrev main_while1b_cst_10 : Ref sig .tc := ⟨.hbm, 88, rfl⟩
abbrev main_while1b_v21 : Ref sig .tc := ⟨.hbm, 89, rfl⟩
abbrev main_while1b_v22 : Ref sig .tc := ⟨.hbm, 90, rfl⟩
abbrev main_while1b_v23 : Ref sig .tc := ⟨.hbm, 91, rfl⟩
abbrev main_while1b_v24 : Ref sig .tc := ⟨.hbm, 92, rfl⟩
abbrev main_while1b_cst_11 : Ref sig .tc := ⟨.hbm, 93, rfl⟩
abbrev main_while1b_v25 : Ref sig .tc := ⟨.hbm, 94, rfl⟩
abbrev main_while1b_v26 : Ref sig .tc := ⟨.hbm, 95, rfl⟩
abbrev main_while1b_cst_12 : Ref sig .tc := ⟨.hbm, 96, rfl⟩
abbrev main_while1b_v27 : Ref sig .tc := ⟨.hbm, 97, rfl⟩
abbrev main_while1b_v28 : Ref sig .tc := ⟨.hbm, 98, rfl⟩
abbrev main_while1b_cst_13 : Ref sig .tc := ⟨.hbm, 99, rfl⟩
abbrev main_while1b_v29 : Ref sig .tc := ⟨.hbm, 100, rfl⟩
abbrev main_while1b_v30 : Ref sig .tc := ⟨.hbm, 101, rfl⟩
abbrev main_while1b_v31 : Ref sig .tc := ⟨.hbm, 102, rfl⟩
abbrev main_while1b_v32 : Ref sig .tc := ⟨.hbm, 103, rfl⟩
abbrev main_while1b_v33 : Ref sig .tc := ⟨.hbm, 104, rfl⟩
abbrev main_while1b_cst_14 : Ref sig .tc := ⟨.hbm, 105, rfl⟩
abbrev main_while1b_v34 : Ref sig .tc := ⟨.hbm, 106, rfl⟩
abbrev main_while1b_v35 : Ref sig .tc := ⟨.hbm, 107, rfl⟩
abbrev main_while1b_cst_15 : Ref sig .tc := ⟨.hbm, 108, rfl⟩
abbrev main_while1b_v36 : Ref sig .tc := ⟨.hbm, 109, rfl⟩
abbrev main_while1b_v37 : Ref sig .tc := ⟨.hbm, 110, rfl⟩
abbrev main_while1b_v38 : Ref sig .tc := ⟨.hbm, 111, rfl⟩
abbrev main_while1b_call3_v0 : Ref sig .tc := ⟨.hbm, 112, rfl⟩
abbrev main_while1b_call3_c : Ref sig .tc := ⟨.hbm, 113, rfl⟩
abbrev main_while1b_call3_c_0 : Ref sig .tc := ⟨.hbm, 114, rfl⟩
abbrev main_while1b_v39 : Ref sig .tc := ⟨.hbm, 115, rfl⟩
abbrev main_while1b_c_16 : Ref sig .tc := ⟨.hbm, 116, rfl⟩
abbrev main_while1b_v40 : Ref sig .tc := ⟨.hbm, 117, rfl⟩
abbrev main_v13 : Ref sig .tc := ⟨.hbm, 118, rfl⟩

abbrev nD : Nat := 1
abbrev τ : Topo := Topo.v7x

variable {F : FTy → Type} [FloatOps F]

abbrev main_while0_count : Scf.Loop 32 := ⟨0#32, 300#32, 1#32⟩

abbrev main_while1_count : Scf.Loop 32 := ⟨0#32, 300#32, 1#32⟩
-- ==== Proof.Step.lean ====
/-
  One time step of a spiking layer, and the recurrence it drives, as functions of whole vectors: the membrane current `u`, the
  refractory current `r`, and the spikes. Both layers of the kernel use these definitions, each at its own number of outputs.
  The second half says where a window that holds `K` consecutive steps, and a scratch that holds `K` steps' products one under
  the other, keep the parts that belong to step `j`.
-/
module

public import Idealize.ShloMosaic.Lib.Pipeline.Value
public import Idealize.ShloMosaic.Lib.Pipeline.FrameBody
public import Idealize.ShloMosaic.Lib.Pipeline.ReadBack
public import Idealize.ShloMosaic.Lib.Writes
public import Idealize.ShloMosaic.Lib.ValueIdxCore
public import Idealize.ShloMosaic.Lib.ValueLayout

@[expose] public section

noncomputable section

namespace Cert.Slayer

open Idealize.ShloMosaic Idealize.ShloMosaic.ValueIdx

variable {F : FTy → Type} [FloatOps F] {S : Shape}

/-- The membrane current after a step whose product is `z`: the old one decayed, plus `z`. -/
def uNext (z u : FVec F S .f32) : FVec F S .f32 :=
  addf (mulf (broadcast S (Scalar.ofBits .f32 0x3F67A36D#32)) u) z

/-- The spikes of a step, as 0 and 1: where the new membrane current plus the refractory current reaches the threshold 10. -/
def spike (z u r : FVec F S .f32) : FVec F S .f32 :=
  sitofp .f32 (extui 32 (cmpf .oge (addf (uNext z u) r) (broadcast S (Scalar.ofBits .f32 0x41200000#32))) (by decide))

/-- The refractory current after a step: the old one decayed, minus twenty where there was a spike. -/
def rNext (z u r : FVec F S .f32) : FVec F S .f32 :=
  subf (mulf (broadcast S (Scalar.ofBits .f32 0x3F1B4598#32)) r) (mulf (broadcast S (Scalar.ofBits .f32 0x41A00000#32)) (spike z u r))

/-- The membrane current after `n` steps from `u`, with `z k` the product of step `k`. -/
def uAt (z : ℕ → FVec F S .f32) (u : FVec F S .f32) : ℕ → FVec F S .f32
  | 0 => u
  | n + 1 => uNext (z n) (uAt z u n)

/-- The refractory current after `n` steps from `u` and `r`. -/
def rAt (z : ℕ → FVec F S .f32) (u r : FVec F S .f32) : ℕ → FVec F S .f32
  | 0 => r
  | n + 1 => rNext (z n) (uAt z u n) (rAt z u r n)

/-- The spikes of step `n`, counted from 0. -/
def spikeAt (z : ℕ → FVec F S .f32) (u r : FVec F S .f32) (n : ℕ) : FVec F S .f32 :=
  spike (z n) (uAt z u n) (rAt z u r n)

/-- The membrane current depends on the products of the steps before only. -/
theorem uAt_congr {z z' : ℕ → FVec F S .f32} (u : FVec F S .f32) : ∀ {n : ℕ}, (∀ k < n, z k = z' k) → uAt z u n = uAt z' u n
  | 0, _ => rfl
  | n + 1, h => by rw [uAt, uAt, h n (by omega), uAt_congr u fun k hk => h k (by omega)]

/-- So does the refractory current. -/
theorem rAt_congr {z z' : ℕ → FVec F S .f32} (u r : FVec F S .f32) : ∀ {n : ℕ}, (∀ k < n, z k = z' k) → rAt z u r n = rAt z' u r n
  | 0, _ => rfl
  | n + 1, h => by
    rw [rAt, rAt, h n (by omega), uAt_congr u fun k hk => h k (by omega), rAt_congr u r fun k hk => h k (by omega)]

/-- The recurrence run `a` steps and then `b` more, the second part with the steps counted anew. -/
theorem uAt_add (z : ℕ → FVec F S .f32) (u : FVec F S .f32) (a : ℕ) : ∀ b, uAt (fun k => z (a + k)) (uAt z u a) b = uAt z u (a + b)
  | 0 => rfl
  | b + 1 => by rw [uAt, uAt_add z u a b]; rfl

/-- The same for the refractory current. -/
theorem rAt_add (z : ℕ → FVec F S .f32) (u r : FVec F S .f32) (a : ℕ) :
    ∀ b, rAt (fun k => z (a + k)) (uAt z u a) (rAt z u r a) b = rAt z u r (a + b)
  | 0 => rfl
  | b + 1 => by rw [rAt, uAt_add z u a b, rAt_add z u r a b]; rfl

/-- The same for the spikes, of which step `b` of the second part is step `a + b` of the whole. -/
theorem spikeAt_add (z : ℕ → FVec F S .f32) (u r : FVec F S .f32) (a b : ℕ) :
    spikeAt (fun k => z (a + k)) (uAt z u a) (rAt z u r a) b = spikeAt z u r (a + b) := by
  rw [spikeAt, uAt_add, rAt_add]; rfl

/-- The spikes of a step depend on the products up to that step only. -/
theorem spikeAt_congr {z z' : ℕ → FVec F S .f32} (u r : FVec F S .f32) {n : ℕ} (h : ∀ k ≤ n, z k = z' k) :
    spikeAt z u r n = spikeAt z' u r n := by
  rw [spikeAt, spikeAt, h n le_rfl, uAt_congr u fun k hk => h k (by omega), rAt_congr u r fun k hk => h k (by omega)]

/-! ## Steps kept in windows and scratch -/

variable {m n K : ℕ}

/-- The `k` rows from row `o` of an array, rows counted modulo its height. -/
def rowsAt {α : Type} (hm : 0 < m) (k : ℕ) (Z : (⟨2, ![m, n]⟩ : Shape).Idx → α) (o : ℕ) : (⟨2, ![k, n]⟩ : Shape).Idx → α :=
  fun y => Z (ix2 ⟨(o + (y 0).val) % m, Nat.mod_lt _ hm⟩ (y 1))

/-- A load of `k` rows from row `o` reads `rowsAt`. -/
theorem ld_rows {Val : EltTy → Type} {e : EltTy} (hm : 0 < m) {k o : ℕ} (Z : (⟨2, ![m, n]⟩ : Shape).Idx → Val e)
    (inb : ∀ a, (![o, 0] : Fin 2 → ℕ) a + (![k, n] : Fin 2 → ℕ) a ≤ (⟨2, ![m, n]⟩ : Shape).size a) :
    View.ld Z (Rect.unit (s := (⟨2, ![m, n]⟩ : Shape)) ![o, 0] ![k, n] inb) = rowsAt hm k Z o := by
  rw [View.ld_unit]
  funext y
  unfold rowsAt
  refine congrArg Z (funext fun a => Fin.ext ?_)
  have h0 : o + k ≤ m := inb 0
  have hy : (y 0).val < k := (y 0).isLt
  match a with
  | ⟨0, _⟩ => show o + (y 0).val = (o + (y 0).val) % m; rw [Nat.mod_eq_of_lt (by omega)]
  | ⟨1, _⟩ => show 0 + (y 1).val = (y 1).val; omega

/-- A load of `k` rows from row `o`, after a store of the whole array, reads `rowsAt` of what was stored. -/
theorem readCov_rows {Val : EltTy → Type} [∀ e, Nonempty (Val e)] {e : EltTy} {sig : RefSig} {κ : Kind} {sp : Space}
    (v : View sig κ sp (⟨2, ![m, n]⟩ : Shape) e) (hm : 0 < m) {k o : ℕ} (Z : (⟨2, ![m, n]⟩ : Shape).Idx → Val e)
    (inb₀ : ∀ a, (![0, 0] : Fin 2 → ℕ) a + (![m, n] : Fin 2 → ℕ) a ≤ (⟨2, ![m, n]⟩ : Shape).size a)
    (inb : ∀ a, (![o, 0] : Fin 2 → ℕ) a + (![k, n] : Fin 2 → ℕ) a ≤ (⟨2, ![m, n]⟩ : Shape).size a) :
    v.readCov [(⟨Rect.unit (s := (⟨2, ![m, n]⟩ : Shape)) ![0, 0] ![m, n] inb₀, Z⟩ : View.Piece Val _ e)]
      (Rect.unit (s := (⟨2, ![m, n]⟩ : Shape)) ![o, 0] ![k, n] inb).toLoadRect = rowsAt hm k Z o :=
  (View.readCov_fill v inb₀ Z [] _ fun a => by fin_cases a <;> rfl).trans (ld_rows hm Z inb)

/-- `K` arrays laid one behind the other along a new leading axis. -/
def stack {α : Type} (f : ℕ → (⟨2, ![m, n]⟩ : Shape).Idx → α) : (⟨3, ![K, m, n]⟩ : Shape).Idx → α :=
  fun y => f (y 0).val (ix2 (y 1) (y 2))

/-- Two stacks agree where their first `K` arrays do. -/
theorem stack_congr {α : Type} {f g : ℕ → (⟨2, ![m, n]⟩ : Shape).Idx → α} (h : ∀ j < K, f j = g j) :
    (stack f : (⟨3, ![K, m, n]⟩ : Shape).Idx → α) = stack g :=
  funext fun y => congrFun (h (y 0).val (y 0).isLt) (ix2 (y 1) (y 2))

/-- What a store of one array at place `j` of the leading axis holds is the stack's, at the store's own places. -/
theorem stack_piece {α : Type} (f : ℕ → (⟨2, ![m, n]⟩ : Shape).Idx → α) (j : ℕ) (h : (⟨2, ![m, n]⟩ : Shape).ShapeCasts ⟨3, ![1, m, n]⟩)
    (inb : ∀ a, (![j, 0, 0] : Fin 3 → ℕ) a + (![1, m, n] : Fin 3 → ℕ) a ≤ (⟨3, ![K, m, n]⟩ : Shape).size a)
    (x : (⟨3, ![1, m, n]⟩ : Shape).Idx) :
    shapeCast (⟨3, ![1, m, n]⟩ : Shape) (f j) h x
      = stack (K := K) f ((Rect.unit (s := (⟨3, ![K, m, n]⟩ : Shape)) ![j, 0, 0] ![1, m, n] inb).emb x) := by
  obtain ⟨u, i, k, rfl⟩ : ∃ (u : Fin 1) (i : Fin m) (k : Fin n), x = ix3 u i k := ⟨_, _, _, eq_ix3 x⟩
  have hu : u.val = 0 := by omega
  have hj : j + 1 ≤ K := inb 0
  have e : (Rect.unit (s := (⟨3, ![K, m, n]⟩ : Shape)) ![j, 0, 0] ![1, m, n] inb).emb (ix3 u i k)
      = ix3 (⟨j, by omega⟩ : Fin K) i k := Rect.emb_eq_of_coords _ _ _ fun a => match a with
    | ⟨0, _⟩ => show j = j + 1 * u.val by omega
    | ⟨1, _⟩ => show i.val = 0 + 1 * i.val by omega
    | ⟨2, _⟩ => show k.val = 0 + 1 * k.val by omega
  exact (shapeCast_ab_1ab_apply ..).trans (congrArg (stack f) e).symm

/-- A buffer whose stores are pieces of one array that cover it reads as that array. -/
theorem read_of_pieces {Val : EltTy → Type} {e : EltTy} {sig : RefSig} {κ : Kind} {sp : Space} {s : Shape} (v : View sig κ sp s e)
    (f : v.ty.Contents Val) (G : s.Idx → Val e) (L : List (View.Piece Val s e)) (h : View.PiecesOf G L) (hc : ∀ y, ∃ p ∈ L, y ∈ p.1.set) :
    v.read Val (v.writes Val f L) = G :=
  funext fun y => View.read_writes_apply_of_pieces v f G L h.mem y (hc y)

end Cert.Slayer

end
-- ==== Proof.Layer1.RunFirst.lean ====
module

public import proofs.«01_k».proof.Proof.Step
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Slayer

variable {F : FTy → Type} [FloatOps F]

local notation "𝕄" => MT nD τ sig Unit (Elt F) ℕ (UR sig nD τ) ℕ

/-- The condition under which the body fills the currents with zeros, from the grid coordinates. -/
abbrev isFirst (i : grid0.Coords) : Prop :=
  (Scalar.cmpi .ne (Scalar.extui (Scalar.cmpi .eq (BitVec.ofNat 32 (i 2).val) 0#32)) 0#32) = 1#1

/-- It holds at the first point only. -/
theorem isFirst_iff : ∀ t : Fin cfg0.N, isFirst (grid0.coords t) ↔ t.val = 0 :=
  (fun t => by
    have ht : t.val < 12 := Nat.lt_of_lt_of_eq t.isLt N_0
    have e2 : (grid0.coords t 2).val = t.val / 1 % 12 := Pipeline.Grid.coords_val t 2 (by decide) rfl
    rw [show t.val = 0 ↔ t.val % 12 = 0 by omega]
    simp only [isFirst, e2]
    word_cmp
   : ∀ t : Fin grid0.N, isFirst (grid0.coords t) ↔ t.val = 0)

-- the run's proof term is large
set_option maxHeartbeats 1000000 in
/-- The body's run at the first grid point, where the body first fills both currents with zeros: the stores it makes into its result
    block, into the two currents and into the products' scratch (each list last store first), with the proof that from the two input blocks
    the body runs to its end with exactly these stores made. -/
def runFirst (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : isFirst i) (x0 : Vec F S25x32x2048 .i8) (x1 : Vec F S2048x1024 .bf16) :
    Σ' (L2 : List (View.Piece (Elt F) S25x32x1024 .i8)), Σ' (LS0 : List (View.Piece (Elt F) S32x1024 .f32)),
      Σ' (LS1 : List (View.Piece (Elt F) S32x1024 .f32)), { LT2 : List (View.Piece (Elt F) S800x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LT2)) -∗ K ⟨⟩))
          ⊢ wp frame (wpE (defs₀ (F := F)) Variants.none c none) E
              (cc0_slayer_layer i arg3 harg3 arg4 harg4 arg5 harg5 arg6 harg6 arg7 harg7 arg8 harg8) K } := by
  refine ⟨?_, ?_, ?_, ?_, fun E K => ?run⟩
  case run =>
    simp only [cc0_slayer_layer_eq_skeleton]; unfold cc0_slayer_layer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    iexists _; iexact HS2

end Cert.KernelIdeal.Layer1

end
-- ==== Proof.Layer1.RunLater.lean ====
module

public import proofs.«01_k».proof.Proof.Layer1.RunFirst

@[expose] public section

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Slayer

variable {F : FTy → Type} [FloatOps F]

local notation "𝕄" => MT nD τ sig Unit (Elt F) ℕ (UR sig nD τ) ℕ

-- the run's proof term is large
set_option maxHeartbeats 1000000 in
/-- The body's run at a later grid point, where the body finds both currents as the point before left them: the stores it makes into its result
    block, into the two currents and into the products' scratch (each list last store first), with the proof that from the two input blocks
    the body runs to its end with exactly these stores made. -/
def runLater (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : ¬isFirst i) (x0 : Vec F S25x32x2048 .i8) (x1 : Vec F S2048x1024 .bf16) (xs0 xs1 : Vec F S32x1024 .f32) :
    Σ' (L2 : List (View.Piece (Elt F) S25x32x1024 .i8)), Σ' (LS0 : List (View.Piece (Elt F) S32x1024 .f32)),
      Σ' (LS1 : List (View.Piece (Elt F) S32x1024 .f32)), { LT2 : List (View.Piece (Elt F) S800x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs0 ∗ owns (c : Thread nD τ) arg7 fullShare xs1 ∗ (∃ d, owns (c : Thread nD τ) arg8 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LT2)) -∗ K ⟨⟩))
          ⊢ wp frame (wpE (defs₀ (F := F)) Variants.none c none) E
              (cc0_slayer_layer i arg3 harg3 arg4 harg4 arg5 harg5 arg6 harg6 arg7 harg7 arg8 harg8) K } := by
  refine ⟨?_, ?_, ?_, ?_, fun E K => ?run⟩
  case run =>
    simp only [cc0_slayer_layer_eq_skeleton]; unfold cc0_slayer_layer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%ds2, %fs2, -, HS2⟩, Hk⟩
    obtain rfl := harg3.eq_unread hf0; obtain rfl := harg4.eq_unread hf1; obtain rfl := harg6.eq_unread hfs0; obtain rfl := harg7.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    iexists _; iexact HS2

end Cert.KernelIdeal.Layer1

end
-- ==== Proof.Layer1.Pieces.lean ====
module

public import proofs.«01_k».proof.Proof.Layer1.RunLater

@[expose] public section

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Slayer

variable {F : FTy → Type} [FloatOps F]

local notation "𝕄" => MT nD τ sig Unit (Elt F) ℕ (UR sig nD τ) ℕ

/-- The products of the 25 steps of a point, from the point's two blocks: the 32 rows of step `j` of the one product the body makes. -/
def prods (x0 : Vec F S25x32x2048 .i8) (x1 : Vec F S2048x1024 .bf16) (j : ℕ) : FVec F S32x1024 .f32 :=
  rowsAt (m := 800) (by decide) 32 (k0_pay6 x0 x1) (32 * j)

/-- The zeros the first point fills both currents with. -/
def zeros : FVec F S32x1024 .f32 := broadcast S32x1024 (Scalar.ofBits .f32 0x00000000#32)

/-- The result block of a point that finds the currents at `u` and `r`: the spikes of its 25 steps, one behind the other. -/
def block (x0 : Vec F S25x32x2048 .i8) (x1 : Vec F S2048x1024 .bf16) (u r : Vec F S32x1024 .f32) : Vec F S25x32x1024 .i8 :=
  stack fun j => fptosi 8 (spikeAt (prods x0 x1) u r j)

theorem hz2 : (![0, 0] : Fin 2 → ℕ) = fun _ => 0 := funext fun a => by fin_cases a <;> rfl
theorem hz3 : (![0, 0, 0] : Fin 3 → ℕ) = fun _ => 0 := funext fun a => by fin_cases a <;> rfl

/-- The 25 stores into the result block at the first point are the steps' spikes. -/
theorem first_block (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : isFirst i) (x0 : Vec F S25x32x2048 .i8) (x1 : Vec F S2048x1024 .bf16) :
    View.PiecesOf (block x0 x1 zeros zeros) (runFirst c i arg3 harg3 arg4 harg4 arg5 harg5 arg6 harg6 arg7 harg7 arg8 harg8 hc0 x0 x1).1 := by
  unfold runFirst
  dsimp only
  sl_unfold_run_names
  simp only [View.readAt_eq_ld, harg3.read_unread, harg4.read_unread, View.ld_unit_zero (S := S32x1024) hz2,
    View.ld_unit_zero (S := S25x32x2048) hz3, View.ld_unit_zero (S := S2048x1024) hz2, readCov_rows (m := 800) arg8.view (by decide),
    View.readCov_unit_zero (S := S32x1024) arg6.view hz2, View.readCov_unit_zero (S := S32x1024) arg7.view hz2, k0_pay4, k0_pay5, k0_pay2, k0_pay3, shapeCast_self]
  unfold block
  have h := fun j => stack_piece (K := 25) (fun j => fptosi 8 (spikeAt (prods x0 x1) zeros zeros j)) j shapeCasts_S32x1024_S1x32x1024
  exact ⟨h 24 inb_S25x32x1024_S1x32x1024_24_0_0, h 23 inb_S25x32x1024_S1x32x1024_23_0_0, h 22 inb_S25x32x1024_S1x32x1024_22_0_0,
    h 21 inb_S25x32x1024_S1x32x1024_21_0_0, h 20 inb_S25x32x1024_S1x32x1024_20_0_0, h 19 inb_S25x32x1024_S1x32x1024_19_0_0,
    h 18 inb_S25x32x1024_S1x32x1024_18_0_0, h 17 inb_S25x32x1024_S1x32x1024_17_0_0, h 16 inb_S25x32x1024_S1x32x1024_16_0_0,
    h 15 inb_S25x32x1024_S1x32x1024_15_0_0, h 14 inb_S25x32x1024_S1x32x1024_14_0_0, h 13 inb_S25x32x1024_S1x32x1024_13_0_0,
    h 12 inb_S25x32x1024_S1x32x1024_12_0_0, h 11 inb_S25x32x1024_S1x32x1024_11_0_0, h 10 inb_S25x32x1024_S1x32x1024_10_0_0,
    h 9 inb_S25x32x1024_S1x32x1024_9_0_0, h 8 inb_S25x32x1024_S1x32x1024_8_0_0, h 7 inb_S25x32x1024_S1x32x1024_7_0_0,
    h 6 inb_S25x32x1024_S1x32x1024_6_0_0, h 5 inb_S25x32x1024_S1x32x1024_5_0_0, h 4 inb_S25x32x1024_S1x32x1024_4_0_0,
    h 3 inb_S25x32x1024_S1x32x1024_3_0_0, h 2 inb_S25x32x1024_S1x32x1024_2_0_0, h 1 inb_S25x32x1024_S1x32x1024_1_0_0,
    h 0 inb_S25x32x1024_S1x32x1024_0_0_0, trivial⟩

/-- The 25 stores cover the block. -/
theorem first_cover (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : isFirst i) (x0 : Vec F S25x32x2048 .i8) (x1 : Vec F S2048x1024 .bf16)
    (y : S25x32x1024.Idx) : ∃ pc ∈ (runFirst c i arg3 harg3 arg4 harg4 arg5 harg5 arg6 harg6 arg7 harg7 arg8 harg8 hc0 x0 x1).1, y ∈ pc.1.set :=
  View.cover_of_tiledL (runFirst c i arg3 harg3 arg4 harg4 arg5 harg5 arg6 harg6 arg7 harg7 arg8 harg8 hc0 x0 x1).1 S1x32x1024.size (by sl_kernel_rfl) y

/-- The store into the membrane current covers it. -/
theorem first_cover_u (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : isFirst i) (x0 : Vec F S25x32x2048 .i8) (x1 : Vec F S2048x1024 .bf16)
    (y : S32x1024.Idx) : ∃ pc ∈ (runFirst c i arg3 harg3 arg4 harg4 arg5 harg5 arg6 harg6 arg7 harg7 arg8 harg8 hc0 x0 x1).2.1, y ∈ pc.1.set :=
  View.cover_of_tiledL (runFirst c i arg3 harg3 arg4 harg4 arg5 harg5 arg6 harg6 arg7 harg7 arg8 harg8 hc0 x0 x1).2.1 S32x1024.size (by sl_kernel_rfl) y

/-- The store into the refractory current covers it. -/
theorem first_cover_r (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : isFirst i) (x0 : Vec F S25x32x2048 .i8) (x1 : Vec F S2048x1024 .bf16)
    (y : S32x1024.Idx) : ∃ pc ∈ (runFirst c i arg3 harg3 arg4 harg4 arg5 harg5 arg6 harg6 arg7 harg7 arg8 harg8 hc0 x0 x1).2.2.1, y ∈ pc.1.set :=
  View.cover_of_tiledL (runFirst c i arg3 harg3 arg4 harg4 arg5 harg5 arg6 harg6 arg7 harg7 arg8 harg8 hc0 x0 x1).2.2.1 S32x1024.size (by sl_kernel_rfl) y

/-- The membrane current is left 25 steps on. -/
theorem first_u (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : isFirst i) (x0 : Vec F S25x32x2048 .i8) (x1 : Vec F S2048x1024 .bf16) :
    View.canon (runFirst c i arg3 harg3 arg4 harg4 arg5 harg5 arg6 harg6 arg7 harg7 arg8 harg8 hc0 x0 x1).2.1 = uAt (prods x0 x1) zeros 25 := by
  unfold runFirst
  dsimp only
  sl_unfold_run_names
  rw [View.canon_cons_unit_zero (S := S32x1024) hz2]
  simp only [View.readAt_eq_ld, harg3.read_unread, harg4.read_unread, View.ld_unit_zero (S := S32x1024) hz2,
    View.ld_unit_zero (S := S25x32x2048) hz3, View.ld_unit_zero (S := S2048x1024) hz2, readCov_rows (m := 800) arg8.view (by decide),
    View.readCov_unit_zero (S := S32x1024) arg6.view hz2, View.readCov_unit_zero (S := S32x1024) arg7.view hz2, k0_pay4, k0_pay5, k0_pay2, k0_pay3, shapeCast_self]
  rfl

/-- The refractory current is left 25 steps on. -/
theorem first_r (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : isFirst i) (x0 : Vec F S25x32x2048 .i8) (x1 : Vec F S2048x1024 .bf16) :
    View.canon (runFirst c i arg3 harg3 arg4 harg4 arg5 harg5 arg6 harg6 arg7 harg7 arg8 harg8 hc0 x0 x1).2.2.1 = rAt (prods x0 x1) zeros zeros 25 := by
  unfold runFirst
  dsimp only
  sl_unfold_run_names
  rw [View.canon_cons_unit_zero (S := S32x1024) hz2]
  simp only [View.readAt_eq_ld, harg3.read_unread, harg4.read_unread, View.ld_unit_zero (S := S32x1024) hz2,
    View.ld_unit_zero (S := S25x32x2048) hz3, View.ld_unit_zero (S := S2048x1024) hz2, readCov_rows (m := 800) arg8.view (by decide),
    View.readCov_unit_zero (S := S32x1024) arg6.view hz2, View.readCov_unit_zero (S := S32x1024) arg7.view hz2, k0_pay4, k0_pay5, k0_pay2, k0_pay3, shapeCast_self]
  rfl

/-- The 25 stores into the result block at a later point are the steps' spikes. -/
theorem later_block (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : ¬isFirst i) (x0 : Vec F S25x32x2048 .i8) (x1 : Vec F S2048x1024 .bf16) (u r : Vec F S32x1024 .f32) :
    View.PiecesOf (block x0 x1 u r) (runLater c i arg3 harg3 arg4 harg4 arg5 harg5 arg6 harg6 arg7 harg7 arg8 harg8 hc0 x0 x1 u r).1 := by
  unfold runLater
  dsimp only
  sl_unfold_run_names
  simp only [View.readAt_eq_ld, harg3.read_unread, harg4.read_unread, harg6.read_unread, harg7.read_unread, View.ld_unit_zero (S := S32x1024) hz2,
    View.ld_unit_zero (S := S25x32x2048) hz3, View.ld_unit_zero (S := S2048x1024) hz2, readCov_rows (m := 800) arg8.view (by decide),
    k0_pay2, k0_pay3, shapeCast_self]
  unfold block
  have h := fun j => stack_piece (K := 25) (fun j => fptosi 8 (spikeAt (prods x0 x1) u r j)) j shapeCasts_S32x1024_S1x32x1024
  exact ⟨h 24 inb_S25x32x1024_S1x32x1024_24_0_0, h 23 inb_S25x32x1024_S1x32x1024_23_0_0, h 22 inb_S25x32x1024_S1x32x1024_22_0_0,
    h 21 inb_S25x32x1024_S1x32x1024_21_0_0, h 20 inb_S25x32x1024_S1x32x1024_20_0_0, h 19 inb_S25x32x1024_S1x32x1024_19_0_0,
    h 18 inb_S25x32x1024_S1x32x1024_18_0_0, h 17 inb_S25x32x1024_S1x32x1024_17_0_0, h 16 inb_S25x32x1024_S1x32x1024_16_0_0,
    h 15 inb_S25x32x1024_S1x32x1024_15_0_0, h 14 inb_S25x32x1024_S1x32x1024_14_0_0, h 13 inb_S25x32x1024_S1x32x1024_13_0_0,
    h 12 inb_S25x32x1024_S1x32x1024_12_0_0, h 11 inb_S25x32x1024_S1x32x1024_11_0_0, h 10 inb_S25x32x1024_S1x32x1024_10_0_0,
    h 9 inb_S25x32x1024_S1x32x1024_9_0_0, h 8 inb_S25x32x1024_S1x32x1024_8_0_0, h 7 inb_S25x32x1024_S1x32x1024_7_0_0,
    h 6 inb_S25x32x1024_S1x32x1024_6_0_0, h 5 inb_S25x32x1024_S1x32x1024_5_0_0, h 4 inb_S25x32x1024_S1x32x1024_4_0_0,
    h 3 inb_S25x32x1024_S1x32x1024_3_0_0, h 2 inb_S25x32x1024_S1x32x1024_2_0_0, h 1 inb_S25x32x1024_S1x32x1024_1_0_0,
    h 0 inb_S25x32x1024_S1x32x1024_0_0_0, trivial⟩

/-- The 25 stores cover the block. -/
theorem later_cover (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : ¬isFirst i) (x0 : Vec F S25x32x2048 .i8) (x1 : Vec F S2048x1024 .bf16) (u r : Vec F S32x1024 .f32)
    (y : S25x32x1024.Idx) : ∃ pc ∈ (runLater c i arg3 harg3 arg4 harg4 arg5 harg5 arg6 harg6 arg7 harg7 arg8 harg8 hc0 x0 x1 u r).1, y ∈ pc.1.set :=
  View.cover_of_tiledL (runLater c i arg3 harg3 arg4 harg4 arg5 harg5 arg6 harg6 arg7 harg7 arg8 harg8 hc0 x0 x1 u r).1 S1x32x1024.size (by sl_kernel_rfl) y

/-- The store into the membrane current covers it. -/
theorem later_cover_u (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : ¬isFirst i) (x0 : Vec F S25x32x2048 .i8) (x1 : Vec F S2048x1024 .bf16) (u r : Vec F S32x1024 .f32)
    (y : S32x1024.Idx) : ∃ pc ∈ (runLater c i arg3 harg3 arg4 harg4 arg5 harg5 arg6 harg6 arg7 harg7 arg8 harg8 hc0 x0 x1 u r).2.1, y ∈ pc.1.set :=
  View.cover_of_tiledL (runLater c i arg3 harg3 arg4 harg4 arg5 harg5 arg6 harg6 arg7 harg7 arg8 harg8 hc0 x0 x1 u r).2.1 S32x1024.size (by sl_kernel_rfl) y

/-- The store into the refractory current covers it. -/
theorem later_cover_r (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : ¬isFirst i) (x0 : Vec F S25x32x2048 .i8) (x1 : Vec F S2048x1024 .bf16) (u r : Vec F S32x1024 .f32)
    (y : S32x1024.Idx) : ∃ pc ∈ (runLater c i arg3 harg3 arg4 harg4 arg5 harg5 arg6 harg6 arg7 harg7 arg8 harg8 hc0 x0 x1 u r).2.2.1, y ∈ pc.1.set :=
  View.cover_of_tiledL (runLater c i arg3 harg3 arg4 harg4 arg5 harg5 arg6 harg6 arg7 harg7 arg8 harg8 hc0 x0 x1 u r).2.2.1 S32x1024.size (by sl_kernel_rfl) y

/-- The membrane current is left 25 steps on. -/
theorem later_u (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : ¬isFirst i) (x0 : Vec F S25x32x2048 .i8) (x1 : Vec F S2048x1024 .bf16) (u r : Vec F S32x1024 .f32) :
    View.canon (runLater c i arg3 harg3 arg4 harg4 arg5 harg5 arg6 harg6 arg7 harg7 arg8 harg8 hc0 x0 x1 u r).2.1 = uAt (prods x0 x1) u 25 := by
  unfold runLater
  dsimp only
  sl_unfold_run_names
  rw [View.canon_unit_zero (S := S32x1024) hz2]
  simp only [View.readAt_eq_ld, harg3.read_unread, harg4.read_unread, harg6.read_unread, harg7.read_unread, View.ld_unit_zero (S := S32x1024) hz2,
    View.ld_unit_zero (S := S25x32x2048) hz3, View.ld_unit_zero (S := S2048x1024) hz2, readCov_rows (m := 800) arg8.view (by decide),
    k0_pay2, k0_pay3, shapeCast_self]
  rfl

/-- The refractory current is left 25 steps on. -/
theorem later_r (c : Dev nD) (i : grid0.Coords) (arg3 : Memref sig .tc .vmem S25x32x2048 .i8) (harg3 : arg3.IsWhole) (arg4 : Memref sig .tc .vmem S2048x1024 .bf16) (harg4 : arg4.IsWhole)
    (arg5 : Memref sig .tc .vmem S25x32x1024 .i8) (harg5 : arg5.IsWhole) (arg6 : Memref sig .tc .vmem S32x1024 .f32) (harg6 : arg6.IsWhole)
    (arg7 : Memref sig .tc .vmem S32x1024 .f32) (harg7 : arg7.IsWhole) (arg8 : Memref sig .tc .vmem S800x1024 .f32) (harg8 : arg8.IsWhole)
    (hc0 : ¬isFirst i) (x0 : Vec F S25x32x2048 .i8) (x1 : Vec F S2048x1024 .bf16) (u r : Vec F S32x1024 .f32) :
    View.canon (runLater c i arg3 harg3 arg4 harg4 arg5 harg5 arg6 harg6 arg7 harg7 arg8 harg8 hc0 x0 x1 u r).2.2.1 = rAt (prods x0 x1) u r 25 := by
  unfold runLater
  dsimp only
  sl_unfold_run_names
  rw [View.canon_unit_zero (S := S32x1024) hz2]
  simp only [View.readAt_eq_ld, harg3.read_unread, harg4.read_unread, harg6.read_unread, harg7.read_unread, View.ld_unit_zero (S := S32x1024) hz2,
    View.ld_unit_zero (S := S25x32x2048) hz3, View.ld_unit_zero (S := S2048x1024) hz2, readCov_rows (m := 800) arg8.view (by decide),
    k0_pay2, k0_pay3, shapeCast_self]
  rfl

end Cert.KernelIdeal.Layer1

end
-- ==== Proof.Layer1.Region.lean ====
module

public import proofs.«01_k».proof.Proof.Layer1.Pieces

@[expose] public section

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Slayer

variable {F : FTy → Type} [FloatOps F]

local notation "𝕄" => MT nD τ sig Unit (Elt F) ℕ (UR sig nD τ) ℕ

/-! # The layer's launch: what every grid point holds, from the arrays the launch finds

`V` is the contents of the buffers as the launch finds them. -/

section Region

variable (V : (c : Dev nD) → (b : Ref sig .tc) → Buf (Elt F) ((c : Thread nD τ).loc b))

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The product of time step `k`, counted over all points: step `k % 25` of point `k / 25`. -/
def z (c : Dev nD) (k : ℕ) : FVec F S32x1024 .f32 :=
  if h : k / 25 < cfg0.N then prods (iblk V c 0 ⟨k / 25, h⟩) (iblk V c 1 ⟨k / 25, h⟩) (k % 25) else zeros

/-- The membrane current before point `n`: the recurrence from zeros, `25 n` steps on. -/
def u (c : Dev nD) (n : ℕ) : FVec F S32x1024 .f32 := uAt (z V c) zeros (25 * n)

/-- The refractory current before point `n`. -/
def r (c : Dev nD) (n : ℕ) : FVec F S32x1024 .f32 := rAt (z V c) zeros zeros (25 * n)

/-- The result block of point `n`: the spikes of its 25 steps. -/
def out (c : Dev nD) (n : ℕ) : Vec F S25x32x1024 .i8 := stack fun j => fptosi 8 (spikeAt (z V c) zeros zeros (25 * n + j))

/-- A point's own products are the whole recurrence's at its 25 steps. -/
theorem prods_eq (c : Dev nD) (t : Fin cfg0.N) (j : ℕ) (hj : j < 25) :
    prods (iblk V c 0 t) (iblk V c 1 t) j = z V c (25 * t.val + j) := by
  have e : (25 * t.val + j) / 25 = t.val := by omega
  have e' : (25 * t.val + j) % 25 = j := by omega
  unfold z
  rw [dif_pos (by rw [e]; exact t.isLt), e']
  have ht : (⟨(25 * t.val + j) / 25, by rw [e]; exact t.isLt⟩ : Fin cfg0.N) = t := Fin.ext e
  rw [ht]

/-- Point `t` carries the membrane current on by its 25 steps. -/
theorem u_step (c : Dev nD) (t : Fin cfg0.N) :
    uAt (prods (iblk V c 0 t) (iblk V c 1 t)) (u V c t.val) 25 = u V c (t.val + 1) :=
  (uAt_congr _ fun j hj => prods_eq V c t j hj).trans (uAt_add (z V c) zeros (25 * t.val) 25)

/-- The same for the refractory current. -/
theorem r_step (c : Dev nD) (t : Fin cfg0.N) :
    rAt (prods (iblk V c 0 t) (iblk V c 1 t)) (u V c t.val) (r V c t.val) 25 = r V c (t.val + 1) :=
  (rAt_congr _ _ fun j hj => prods_eq V c t j hj).trans (rAt_add (z V c) zeros zeros (25 * t.val) 25)

/-- And its result block is `out`. -/
theorem block_step (c : Dev nD) (t : Fin cfg0.N) :
    block (iblk V c 0 t) (iblk V c 1 t) (u V c t.val) (r V c t.val) = out V c t.val :=
  stack_congr fun j hj => congrArg _ ((spikeAt_congr _ _ fun i hi => prods_eq V c t i (by omega)).trans
    (spikeAt_add (z V c) zeros zeros (25 * t.val) j))

/-! ## The buffers a point works on -/

abbrev ms0 (t : Fin cfg0.N) : Memref sig .tc .vmem S25x32x2048 .i8 := win0_0.stage (cfg0.slots t 0)
abbrev ms1 (t : Fin cfg0.N) : Memref sig .tc .vmem S2048x1024 .bf16 := win0_1.stage (cfg0.slots t 1)
abbrev ms2 (t : Fin cfg0.N) : Memref sig .tc .vmem S25x32x1024 .i8 := win0_2.stage (cfg0.slots t 2)
/-- The scratch that carries the membrane current, -/
abbrev scU : Memref sig .tc .vmem S32x1024 .f32 := Memref.whole cc0_scratch0
/-- the one that carries the refractory current, -/
abbrev scR : Memref sig .tc .vmem S32x1024 .f32 := Memref.whole cc0_scratch1
/-- and the one that holds a point's products. -/
abbrev scZ : Memref sig .tc .vmem S800x1024 .f32 := Memref.whole cc0_scratch2

/-- The invariant the launch starts from: the layer's scratch and the other launch's buffers, each at anything, and the generator register. -/
theorem PhiA_eq (c : Dev nD) : (Pipeline.ΦA spec0 c : sProp 𝕄) = iprop(iprop((∃ d, owns (c : Thread nD τ) scU fullShare d) ∗ (∃ d, owns (c : Thread nD τ) scR fullShare d) ∗ (∃ d, owns (c : Thread nD τ) scZ fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  unfold Pipeline.ΦA; rw [scopedRest0_eq]; simp only [scU, scR, scZ, owns_whole]; try rfl

/-- The invariant before point `n`: as the launch starts before the first point; after that the two currents at `u` and `r`. -/
def Phi (c : Dev nD) : (n : ℕ) → n ≤ cfg0.N → sProp 𝕄
  | 0, _ => Pipeline.ΦA spec0 c
  | n + 1, _ => iprop(iprop(owns (c : Thread nD τ) scU fullShare (u V c (n + 1)) ∗ owns (c : Thread nD τ) scR fullShare (r V c (n + 1)) ∗ (∃ d, owns (c : Thread nD τ) scZ fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (h : n + 1 ≤ cfg0.N) :
    Phi V c (n + 1) h = iprop(iprop(owns (c : Thread nD τ) scU fullShare (u V c (n + 1)) ∗ owns (c : Thread nD τ) scR fullShare (r V c (n + 1)) ∗ (∃ d, owns (c : Thread nD τ) scZ fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := rfl

theorem Phi_pos (c : Dev nD) (n : ℕ) (h : n ≤ cfg0.N) (hz : n ≠ 0) :
    Phi V c n h = iprop(iprop(owns (c : Thread nD τ) scU fullShare (u V c n) ∗ owns (c : Thread nD τ) scR fullShare (r V c n) ∗ (∃ d, owns (c : Thread nD τ) scZ fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  cases n with
  | zero => exact absurd rfl hz
  | succ n => rfl

/-- The proof data of the launch: the arrays as found; after point `t` the inputs' buffers at their blocks, the result's at `out`;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out V c t.val
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) : (dat V c).Φ t.castSucc = Phi V c t.val (Nat.le_of_lt t.isLt) := by
  dsimp only [dat]; exact Pipeline.Dat.Φ_castSucc (Phi V c) t

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = out V c t.val := by dsimp only [dat]

/-- An input window's buffer holds its block at every point, fetched there or not: unfetched, the block has not moved. -/
theorem before0 (c : Dev nD) (t : Fin cfg0.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t))

set_option maxHeartbeats 3200000 in
/-- The body takes what it is called with to what it returns, at the first point and at a later one. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl, after0, after1, after2]
  rw [show (dat V c).Φ t.succ = Phi V c (t.val + 1) t.isLt from rfl, Phi_succ]
  by_cases hz : t.val = 0
  · have eu := (congrArg (fun w => uAt _ w 25) (by rw [hz]; rfl : zeros = u V c t.val)).trans (u_step V c t)
    have er := (congrArg₂ (fun w w' => rAt _ w w' 25) (by rw [hz]; rfl : zeros = u V c t.val) (by rw [hz]; rfl : zeros = r V c t.val)).trans (r_step V c t)
    have eb := (congrArg₂ (fun w w' => block (iblk V c 0 t) (iblk V c 1 t) w w') (by rw [hz]; rfl : zeros = u V c t.val) (by rw [hz]; rfl : zeros = r V c t.val)).trans (block_step V c t)
    rw [Phi_castSucc V c t, Phi_zero V c _ _ hz, PhiA_eq]
    iintro ⟨⟨⟨HS0, HS1, HS2, HR0, HR1, HR2, HR3, HR4, HR5, HR6, HR7⟩, Hg⟩, Ho, ⟨%d0, H0⟩, ⟨%d1, H1⟩, ⟨%d2, H2⟩⟩
    iapply ((runFirst c (grid0.coords t) _ _ _ _ _ _ _ _ _ _ _ _ ((isFirst_iff t).mpr hz) (iblk V c 0 t) (iblk V c 1 t)).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%fT2, HS2⟩⟩
    isplitl [HS0 HS1 HS2 HR0 HR1 HR2 HR3 HR4 HR5 HR6 HR7 Hg]
    · isplitl [HS0 HS1 HS2 HR0 HR1 HR2 HR3 HR4 HR5 HR6 HR7]
      ·
        isplitl [HS0]
        · unfold owns; iexists _; isplitr
          swap; · iexact HS0
          ipureintro; exact (View.read_writes_eq_canon _ _ _ (first_cover_u c _ _ _ _ _ _ _ _ _ _ _ _ _ ((isFirst_iff t).mpr hz) _ _)).trans ((first_u c _ _ _ _ _ _ _ _ _ _ _ _ _ ((isFirst_iff t).mpr hz) _ _).trans (eu))
        isplitl [HS1]
        · unfold owns; iexists _; isplitr
          swap; · iexact HS1
          ipureintro; exact (View.read_writes_eq_canon _ _ _ (first_cover_r c _ _ _ _ _ _ _ _ _ _ _ _ _ ((isFirst_iff t).mpr hz) _ _)).trans ((first_r c _ _ _ _ _ _ _ _ _ _ _ _ _ ((isFirst_iff t).mpr hz) _ _).trans (er))
        isplitl [HS2]
        · iexists _; unfold owns; iexists _; isplitr
          swap; · iexact HS2
          ipureintro; rfl
        isplitl [HR0]
        · iexact HR0
        isplitl [HR1]
        · iexact HR1
        isplitl [HR2]
        · iexact HR2
        isplitl [HR3]
        · iexact HR3
        isplitl [HR4]
        · iexact HR4
        isplitl [HR5]
        · iexact HR5
        isplitl [HR6]
        · iexact HR6
        iexact HR7
      iexact Hg
    isplitl [Ho]; · iexact Ho
    isplitl [H0]; · iexact H0
    isplitl [H1]; · iexact H1
    unfold owns; iexists _; isplitr
    swap; · iexact H2
    ipureintro; exact (read_of_pieces _ _ _ _ (first_block c _ _ _ _ _ _ _ _ _ _ _ _ _ ((isFirst_iff t).mpr hz) _ _) (first_cover c _ _ _ _ _ _ _ _ _ _ _ _ _ ((isFirst_iff t).mpr hz) _ _)).trans eb
  · have eu := u_step V c t
    have er := r_step V c t
    have eb := block_step V c t
    rw [Phi_castSucc V c t, Phi_pos V c _ _ hz]
    iintro ⟨⟨⟨HS0, HS1, HS2, HR0, HR1, HR2, HR3, HR4, HR5, HR6, HR7⟩, Hg⟩, Ho, ⟨%d0, H0⟩, ⟨%d1, H1⟩, ⟨%d2, H2⟩⟩
    iapply ((runLater c (grid0.coords t) _ _ _ _ _ _ _ _ _ _ _ _ (fun h => hz ((isFirst_iff t).mp h)) (iblk V c 0 t) (iblk V c 1 t) (u V c t.val) (r V c t.val)).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%fT2, HS2⟩⟩
    isplitl [HS0 HS1 HS2 HR0 HR1 HR2 HR3 HR4 HR5 HR6 HR7 Hg]
    · isplitl [HS0 HS1 HS2 HR0 HR1 HR2 HR3 HR4 HR5 HR6 HR7]
      ·
        isplitl [HS0]
        · unfold owns; iexists _; isplitr
          swap; · iexact HS0
          ipureintro; exact (View.read_writes_eq_canon _ _ _ (later_cover_u c _ _ _ _ _ _ _ _ _ _ _ _ _ (fun h => hz ((isFirst_iff t).mp h)) _ _ _ _)).trans ((later_u c _ _ _ _ _ _ _ _ _ _ _ _ _ (fun h => hz ((isFirst_iff t).mp h)) _ _ _ _).trans (eu))
        isplitl [HS1]
        · unfold owns; iexists _; isplitr
          swap; · iexact HS1
          ipureintro; exact (View.read_writes_eq_canon _ _ _ (later_cover_r c _ _ _ _ _ _ _ _ _ _ _ _ _ (fun h => hz ((isFirst_iff t).mp h)) _ _ _ _)).trans ((later_r c _ _ _ _ _ _ _ _ _ _ _ _ _ (fun h => hz ((isFirst_iff t).mp h)) _ _ _ _).trans (er))
        isplitl [HS2]
        · iexists _; unfold owns; iexists _; isplitr
          swap; · iexact HS2
          ipureintro; rfl
        isplitl [HR0]
        · iexact HR0
        isplitl [HR1]
        · iexact HR1
        isplitl [HR2]
        · iexact HR2
        isplitl [HR3]
        · iexact HR3
        isplitl [HR4]
        · iexact HR4
        isplitl [HR5]
        · iexact HR5
        isplitl [HR6]
        · iexact HR6
        iexact HR7
      iexact Hg
    isplitl [Ho]; · iexact Ho
    isplitl [H0]; · iexact H0
    isplitl [H1]; · iexact H1
    unfold owns; iexists _; isplitr
    swap; · iexact H2
    ipureintro; exact (read_of_pieces _ _ _ _ (later_block c _ _ _ _ _ _ _ _ _ _ _ _ _ (fun h => hz ((isFirst_iff t).mp h)) _ _ _ _) (later_cover c _ _ _ _ _ _ _ _ _ _ _ _ _ (fun h => hz ((isFirst_iff t).mp h)) _ _ _ _)).trans eb

/-- The body table's row at point `t` is the body. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch starts from is the invariant before the first point, -/
theorem hin (c : Dev nD) : Pipeline.ΦA spec0 c ⊢ (dat V c).Φ 0 := by
  rw [show (dat V c).Φ 0 = Phi V c 0 (Nat.zero_le _) from rfl, Phi_zero V c 0 _ rfl]
  try exact Idealize.SL.BI.Entails.refl _

/-- and after the last point the currents' values may be forgotten again. -/
theorem hout (c : Dev nD) : (dat V c).Φ (Fin.last cfg0.N) ⊢ Pipeline.ΦA spec0 c := by
  rw [show (dat V c).Φ (Fin.last cfg0.N) = Phi V c cfg0.N le_rfl from rfl,
    Phi_pos V c _ _ (by have : cfg0.N = 12 := N_0; omega), PhiA_eq]
  iintro ⟨⟨HS0, HS1, HS2, HR0, HR1, HR2, HR3, HR4, HR5, HR6, HR7⟩, Hg⟩
  isplitl [HS0 HS1 HS2 HR0 HR1 HR2 HR3 HR4 HR5 HR6 HR7]
  ·
    isplitl [HS0]
    · iexists _; iexact HS0
    isplitl [HS1]
    · iexists _; iexact HS1
    isplitl [HS2]
    · iexact HS2
    isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    iexact HR7
  iexact Hg

end Region

end Cert.KernelIdeal.Layer1

end
-- ==== Proof.Layer2.RunFirst.lean ====
module

public import proofs.«01_k».proof.Proof.Step
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Slayer

variable {F : FTy → Type} [FloatOps F]

local notation "𝕄" => MT nD τ sig Unit (Elt F) ℕ (UR sig nD τ) ℕ

/-- The condition under which the body fills the currents with zeros, from the grid coordinates. -/
abbrev isFirst (i : grid1.Coords) : Prop :=
  (Scalar.cmpi .ne (Scalar.extui (Scalar.cmpi .eq (BitVec.ofNat 32 (i 2).val) 0#32)) 0#32) = 1#1

/-- It holds at the first point only. -/
theorem isFirst_iff : ∀ t : Fin cfg1.N, isFirst (grid1.coords t) ↔ t.val = 0 :=
  (fun t => by
    have ht : t.val < 12 := Nat.lt_of_lt_of_eq t.isLt N_1
    have e2 : (grid1.coords t 2).val = t.val / 1 % 12 := Pipeline.Grid.coords_val t 2 (by decide) rfl
    rw [show t.val = 0 ↔ t.val % 12 = 0 by omega]
    simp only [isFirst, e2]
    word_cmp
   : ∀ t : Fin grid1.N, isFirst (grid1.coords t) ↔ t.val = 0)

-- the run's proof term is large
set_option maxHeartbeats 1000000 in
/-- The body's run at the first grid point, where the body first fills both currents with zeros: the stores it makes into its result
    block, into the two currents and into the products' scratch (each list last store first), with the proof that from the two input blocks
    the body runs to its end with exactly these stores made. -/
def runFirst (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : isFirst i) (x0 : Vec F S25x32x1024 .i8) (x1 : Vec F S1024x512 .bf16) :
    Σ' (L2 : List (View.Piece (Elt F) S25x32x512 .i8)), Σ' (LS0 : List (View.Piece (Elt F) S32x512 .f32)),
      Σ' (LS1 : List (View.Piece (Elt F) S32x512 .f32)), { LT2 : List (View.Piece (Elt F) S800x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LT2)) -∗ K ⟨⟩))
          ⊢ wp frame (wpE (defs₀ (F := F)) Variants.none c none) E
              (cc1_slayer_layer i arg3 harg3 arg4 harg4 arg5 harg5 arg6 harg6 arg7 harg7 arg8 harg8) K } := by
  refine ⟨?_, ?_, ?_, ?_, fun E K => ?run⟩
  case run =>
    simp only [cc1_slayer_layer_eq_skeleton]; unfold cc1_slayer_layer_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    iexists _; iexact HS2

end Cert.KernelIdeal.Layer2

end
-- ==== Proof.Layer2.RunLater.lean ====
module

public import proofs.«01_k».proof.Proof.Layer2.RunFirst

@[expose] public section

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Slayer

variable {F : FTy → Type} [FloatOps F]

local notation "𝕄" => MT nD τ sig Unit (Elt F) ℕ (UR sig nD τ) ℕ

-- the run's proof term is large
set_option maxHeartbeats 1000000 in
/-- The body's run at a later grid point, where the body finds both currents as the point before left them: the stores it makes into its result
    block, into the two currents and into the products' scratch (each list last store first), with the proof that from the two input blocks
    the body runs to its end with exactly these stores made. -/
def runLater (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : ¬isFirst i) (x0 : Vec F S25x32x1024 .i8) (x1 : Vec F S1024x512 .bf16) (xs0 xs1 : Vec F S32x512 .f32) :
    Σ' (L2 : List (View.Piece (Elt F) S25x32x512 .i8)), Σ' (LS0 : List (View.Piece (Elt F) S32x512 .f32)),
      Σ' (LS1 : List (View.Piece (Elt F) S32x512 .f32)), { LT2 : List (View.Piece (Elt F) S800x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs0 ∗ owns (c : Thread nD τ) arg7 fullShare xs1 ∗ (∃ d, owns (c : Thread nD τ) arg8 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LT2)) -∗ K ⟨⟩))
          ⊢ wp frame (wpE (defs₀ (F := F)) Variants.none c none) E
              (cc1_slayer_layer i arg3 harg3 arg4 harg4 arg5 harg5 arg6 harg6 arg7 harg7 arg8 harg8) K } := by
  refine ⟨?_, ?_, ?_, ?_, fun E K => ?run⟩
  case run =>
    simp only [cc1_slayer_layer_eq_skeleton]; unfold cc1_slayer_layer_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%ds2, %fs2, -, HS2⟩, Hk⟩
    obtain rfl := harg3.eq_unread hf0; obtain rfl := harg4.eq_unread hf1; obtain rfl := harg6.eq_unread hfs0; obtain rfl := harg7.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    iexists _; iexact HS2

end Cert.KernelIdeal.Layer2

end
-- ==== Proof.Layer2.Pieces.lean ====
module

public import proofs.«01_k».proof.Proof.Layer2.RunLater

@[expose] public section

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Slayer

variable {F : FTy → Type} [FloatOps F]

local notation "𝕄" => MT nD τ sig Unit (Elt F) ℕ (UR sig nD τ) ℕ

/-- The products of the 25 steps of a point, from the point's two blocks: the 32 rows of step `j` of the one product the body makes. -/
def prods (x0 : Vec F S25x32x1024 .i8) (x1 : Vec F S1024x512 .bf16) (j : ℕ) : FVec F S32x512 .f32 :=
  rowsAt (m := 800) (by decide) 32 (k1_pay6 x0 x1) (32 * j)

/-- The zeros the first point fills both currents with. -/
def zeros : FVec F S32x512 .f32 := broadcast S32x512 (Scalar.ofBits .f32 0x00000000#32)

/-- The result block of a point that finds the currents at `u` and `r`: the spikes of its 25 steps, one behind the other. -/
def block (x0 : Vec F S25x32x1024 .i8) (x1 : Vec F S1024x512 .bf16) (u r : Vec F S32x512 .f32) : Vec F S25x32x512 .i8 :=
  stack fun j => fptosi 8 (spikeAt (prods x0 x1) u r j)

theorem hz2 : (![0, 0] : Fin 2 → ℕ) = fun _ => 0 := funext fun a => by fin_cases a <;> rfl
theorem hz3 : (![0, 0, 0] : Fin 3 → ℕ) = fun _ => 0 := funext fun a => by fin_cases a <;> rfl

/-- The 25 stores into the result block at the first point are the steps' spikes. -/
theorem first_block (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : isFirst i) (x0 : Vec F S25x32x1024 .i8) (x1 : Vec F S1024x512 .bf16) :
    View.PiecesOf (block x0 x1 zeros zeros) (runFirst c i arg3 harg3 arg4 harg4 arg5 harg5 arg6 harg6 arg7 harg7 arg8 harg8 hc0 x0 x1).1 := by
  unfold runFirst
  dsimp only
  sl_unfold_run_names
  simp only [View.readAt_eq_ld, harg3.read_unread, harg4.read_unread, View.ld_unit_zero (S := S32x512) hz2,
    View.ld_unit_zero (S := S25x32x1024) hz3, View.ld_unit_zero (S := S1024x512) hz2, readCov_rows (m := 800) arg8.view (by decide),
    View.readCov_unit_zero (S := S32x512) arg6.view hz2, View.readCov_unit_zero (S := S32x512) arg7.view hz2, k1_pay4, k1_pay5, k1_pay2, k1_pay3, shapeCast_self]
  unfold block
  have h := fun j => stack_piece (K := 25) (fun j => fptosi 8 (spikeAt (prods x0 x1) zeros zeros j)) j shapeCasts_S32x512_S1x32x512
  exact ⟨h 24 inb_S25x32x512_S1x32x512_24_0_0, h 23 inb_S25x32x512_S1x32x512_23_0_0, h 22 inb_S25x32x512_S1x32x512_22_0_0,
    h 21 inb_S25x32x512_S1x32x512_21_0_0, h 20 inb_S25x32x512_S1x32x512_20_0_0, h 19 inb_S25x32x512_S1x32x512_19_0_0,
    h 18 inb_S25x32x512_S1x32x512_18_0_0, h 17 inb_S25x32x512_S1x32x512_17_0_0, h 16 inb_S25x32x512_S1x32x512_16_0_0,
    h 15 inb_S25x32x512_S1x32x512_15_0_0, h 14 inb_S25x32x512_S1x32x512_14_0_0, h 13 inb_S25x32x512_S1x32x512_13_0_0,
    h 12 inb_S25x32x512_S1x32x512_12_0_0, h 11 inb_S25x32x512_S1x32x512_11_0_0, h 10 inb_S25x32x512_S1x32x512_10_0_0,
    h 9 inb_S25x32x512_S1x32x512_9_0_0, h 8 inb_S25x32x512_S1x32x512_8_0_0, h 7 inb_S25x32x512_S1x32x512_7_0_0,
    h 6 inb_S25x32x512_S1x32x512_6_0_0, h 5 inb_S25x32x512_S1x32x512_5_0_0, h 4 inb_S25x32x512_S1x32x512_4_0_0,
    h 3 inb_S25x32x512_S1x32x512_3_0_0, h 2 inb_S25x32x512_S1x32x512_2_0_0, h 1 inb_S25x32x512_S1x32x512_1_0_0,
    h 0 inb_S25x32x512_S1x32x512_0_0_0, trivial⟩

/-- The 25 stores cover the block. -/
theorem first_cover (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : isFirst i) (x0 : Vec F S25x32x1024 .i8) (x1 : Vec F S1024x512 .bf16)
    (y : S25x32x512.Idx) : ∃ pc ∈ (runFirst c i arg3 harg3 arg4 harg4 arg5 harg5 arg6 harg6 arg7 harg7 arg8 harg8 hc0 x0 x1).1, y ∈ pc.1.set :=
  View.cover_of_tiledL (runFirst c i arg3 harg3 arg4 harg4 arg5 harg5 arg6 harg6 arg7 harg7 arg8 harg8 hc0 x0 x1).1 S1x32x512.size (by sl_kernel_rfl) y

/-- The store into the membrane current covers it. -/
theorem first_cover_u (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : isFirst i) (x0 : Vec F S25x32x1024 .i8) (x1 : Vec F S1024x512 .bf16)
    (y : S32x512.Idx) : ∃ pc ∈ (runFirst c i arg3 harg3 arg4 harg4 arg5 harg5 arg6 harg6 arg7 harg7 arg8 harg8 hc0 x0 x1).2.1, y ∈ pc.1.set :=
  View.cover_of_tiledL (runFirst c i arg3 harg3 arg4 harg4 arg5 harg5 arg6 harg6 arg7 harg7 arg8 harg8 hc0 x0 x1).2.1 S32x512.size (by sl_kernel_rfl) y

/-- The store into the refractory current covers it. -/
theorem first_cover_r (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : isFirst i) (x0 : Vec F S25x32x1024 .i8) (x1 : Vec F S1024x512 .bf16)
    (y : S32x512.Idx) : ∃ pc ∈ (runFirst c i arg3 harg3 arg4 harg4 arg5 harg5 arg6 harg6 arg7 harg7 arg8 harg8 hc0 x0 x1).2.2.1, y ∈ pc.1.set :=
  View.cover_of_tiledL (runFirst c i arg3 harg3 arg4 harg4 arg5 harg5 arg6 harg6 arg7 harg7 arg8 harg8 hc0 x0 x1).2.2.1 S32x512.size (by sl_kernel_rfl) y

/-- The membrane current is left 25 steps on. -/
theorem first_u (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : isFirst i) (x0 : Vec F S25x32x1024 .i8) (x1 : Vec F S1024x512 .bf16) :
    View.canon (runFirst c i arg3 harg3 arg4 harg4 arg5 harg5 arg6 harg6 arg7 harg7 arg8 harg8 hc0 x0 x1).2.1 = uAt (prods x0 x1) zeros 25 := by
  unfold runFirst
  dsimp only
  sl_unfold_run_names
  rw [View.canon_cons_unit_zero (S := S32x512) hz2]
  simp only [View.readAt_eq_ld, harg3.read_unread, harg4.read_unread, View.ld_unit_zero (S := S32x512) hz2,
    View.ld_unit_zero (S := S25x32x1024) hz3, View.ld_unit_zero (S := S1024x512) hz2, readCov_rows (m := 800) arg8.view (by decide),
    View.readCov_unit_zero (S := S32x512) arg6.view hz2, View.readCov_unit_zero (S := S32x512) arg7.view hz2, k1_pay4, k1_pay5, k1_pay2, k1_pay3, shapeCast_self]
  rfl

/-- The refractory current is left 25 steps on. -/
theorem first_r (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : isFirst i) (x0 : Vec F S25x32x1024 .i8) (x1 : Vec F S1024x512 .bf16) :
    View.canon (runFirst c i arg3 harg3 arg4 harg4 arg5 harg5 arg6 harg6 arg7 harg7 arg8 harg8 hc0 x0 x1).2.2.1 = rAt (prods x0 x1) zeros zeros 25 := by
  unfold runFirst
  dsimp only
  sl_unfold_run_names
  rw [View.canon_cons_unit_zero (S := S32x512) hz2]
  simp only [View.readAt_eq_ld, harg3.read_unread, harg4.read_unread, View.ld_unit_zero (S := S32x512) hz2,
    View.ld_unit_zero (S := S25x32x1024) hz3, View.ld_unit_zero (S := S1024x512) hz2, readCov_rows (m := 800) arg8.view (by decide),
    View.readCov_unit_zero (S := S32x512) arg6.view hz2, View.readCov_unit_zero (S := S32x512) arg7.view hz2, k1_pay4, k1_pay5, k1_pay2, k1_pay3, shapeCast_self]
  rfl

/-- The 25 stores into the result block at a later point are the steps' spikes. -/
theorem later_block (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : ¬isFirst i) (x0 : Vec F S25x32x1024 .i8) (x1 : Vec F S1024x512 .bf16) (u r : Vec F S32x512 .f32) :
    View.PiecesOf (block x0 x1 u r) (runLater c i arg3 harg3 arg4 harg4 arg5 harg5 arg6 harg6 arg7 harg7 arg8 harg8 hc0 x0 x1 u r).1 := by
  unfold runLater
  dsimp only
  sl_unfold_run_names
  simp only [View.readAt_eq_ld, harg3.read_unread, harg4.read_unread, harg6.read_unread, harg7.read_unread, View.ld_unit_zero (S := S32x512) hz2,
    View.ld_unit_zero (S := S25x32x1024) hz3, View.ld_unit_zero (S := S1024x512) hz2, readCov_rows (m := 800) arg8.view (by decide),
    k1_pay2, k1_pay3, shapeCast_self]
  unfold block
  have h := fun j => stack_piece (K := 25) (fun j => fptosi 8 (spikeAt (prods x0 x1) u r j)) j shapeCasts_S32x512_S1x32x512
  exact ⟨h 24 inb_S25x32x512_S1x32x512_24_0_0, h 23 inb_S25x32x512_S1x32x512_23_0_0, h 22 inb_S25x32x512_S1x32x512_22_0_0,
    h 21 inb_S25x32x512_S1x32x512_21_0_0, h 20 inb_S25x32x512_S1x32x512_20_0_0, h 19 inb_S25x32x512_S1x32x512_19_0_0,
    h 18 inb_S25x32x512_S1x32x512_18_0_0, h 17 inb_S25x32x512_S1x32x512_17_0_0, h 16 inb_S25x32x512_S1x32x512_16_0_0,
    h 15 inb_S25x32x512_S1x32x512_15_0_0, h 14 inb_S25x32x512_S1x32x512_14_0_0, h 13 inb_S25x32x512_S1x32x512_13_0_0,
    h 12 inb_S25x32x512_S1x32x512_12_0_0, h 11 inb_S25x32x512_S1x32x512_11_0_0, h 10 inb_S25x32x512_S1x32x512_10_0_0,
    h 9 inb_S25x32x512_S1x32x512_9_0_0, h 8 inb_S25x32x512_S1x32x512_8_0_0, h 7 inb_S25x32x512_S1x32x512_7_0_0,
    h 6 inb_S25x32x512_S1x32x512_6_0_0, h 5 inb_S25x32x512_S1x32x512_5_0_0, h 4 inb_S25x32x512_S1x32x512_4_0_0,
    h 3 inb_S25x32x512_S1x32x512_3_0_0, h 2 inb_S25x32x512_S1x32x512_2_0_0, h 1 inb_S25x32x512_S1x32x512_1_0_0,
    h 0 inb_S25x32x512_S1x32x512_0_0_0, trivial⟩

/-- The 25 stores cover the block. -/
theorem later_cover (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : ¬isFirst i) (x0 : Vec F S25x32x1024 .i8) (x1 : Vec F S1024x512 .bf16) (u r : Vec F S32x512 .f32)
    (y : S25x32x512.Idx) : ∃ pc ∈ (runLater c i arg3 harg3 arg4 harg4 arg5 harg5 arg6 harg6 arg7 harg7 arg8 harg8 hc0 x0 x1 u r).1, y ∈ pc.1.set :=
  View.cover_of_tiledL (runLater c i arg3 harg3 arg4 harg4 arg5 harg5 arg6 harg6 arg7 harg7 arg8 harg8 hc0 x0 x1 u r).1 S1x32x512.size (by sl_kernel_rfl) y

/-- The store into the membrane current covers it. -/
theorem later_cover_u (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : ¬isFirst i) (x0 : Vec F S25x32x1024 .i8) (x1 : Vec F S1024x512 .bf16) (u r : Vec F S32x512 .f32)
    (y : S32x512.Idx) : ∃ pc ∈ (runLater c i arg3 harg3 arg4 harg4 arg5 harg5 arg6 harg6 arg7 harg7 arg8 harg8 hc0 x0 x1 u r).2.1, y ∈ pc.1.set :=
  View.cover_of_tiledL (runLater c i arg3 harg3 arg4 harg4 arg5 harg5 arg6 harg6 arg7 harg7 arg8 harg8 hc0 x0 x1 u r).2.1 S32x512.size (by sl_kernel_rfl) y

/-- The store into the refractory current covers it. -/
theorem later_cover_r (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : ¬isFirst i) (x0 : Vec F S25x32x1024 .i8) (x1 : Vec F S1024x512 .bf16) (u r : Vec F S32x512 .f32)
    (y : S32x512.Idx) : ∃ pc ∈ (runLater c i arg3 harg3 arg4 harg4 arg5 harg5 arg6 harg6 arg7 harg7 arg8 harg8 hc0 x0 x1 u r).2.2.1, y ∈ pc.1.set :=
  View.cover_of_tiledL (runLater c i arg3 harg3 arg4 harg4 arg5 harg5 arg6 harg6 arg7 harg7 arg8 harg8 hc0 x0 x1 u r).2.2.1 S32x512.size (by sl_kernel_rfl) y

/-- The membrane current is left 25 steps on. -/
theorem later_u (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : ¬isFirst i) (x0 : Vec F S25x32x1024 .i8) (x1 : Vec F S1024x512 .bf16) (u r : Vec F S32x512 .f32) :
    View.canon (runLater c i arg3 harg3 arg4 harg4 arg5 harg5 arg6 harg6 arg7 harg7 arg8 harg8 hc0 x0 x1 u r).2.1 = uAt (prods x0 x1) u 25 := by
  unfold runLater
  dsimp only
  sl_unfold_run_names
  rw [View.canon_unit_zero (S := S32x512) hz2]
  simp only [View.readAt_eq_ld, harg3.read_unread, harg4.read_unread, harg6.read_unread, harg7.read_unread, View.ld_unit_zero (S := S32x512) hz2,
    View.ld_unit_zero (S := S25x32x1024) hz3, View.ld_unit_zero (S := S1024x512) hz2, readCov_rows (m := 800) arg8.view (by decide),
    k1_pay2, k1_pay3, shapeCast_self]
  rfl

/-- The refractory current is left 25 steps on. -/
theorem later_r (c : Dev nD) (i : grid1.Coords) (arg3 : Memref sig .tc .vmem S25x32x1024 .i8) (harg3 : arg3.IsWhole) (arg4 : Memref sig .tc .vmem S1024x512 .bf16) (harg4 : arg4.IsWhole)
    (arg5 : Memref sig .tc .vmem S25x32x512 .i8) (harg5 : arg5.IsWhole) (arg6 : Memref sig .tc .vmem S32x512 .f32) (harg6 : arg6.IsWhole)
    (arg7 : Memref sig .tc .vmem S32x512 .f32) (harg7 : arg7.IsWhole) (arg8 : Memref sig .tc .vmem S800x512 .f32) (harg8 : arg8.IsWhole)
    (hc0 : ¬isFirst i) (x0 : Vec F S25x32x1024 .i8) (x1 : Vec F S1024x512 .bf16) (u r : Vec F S32x512 .f32) :
    View.canon (runLater c i arg3 harg3 arg4 harg4 arg5 harg5 arg6 harg6 arg7 harg7 arg8 harg8 hc0 x0 x1 u r).2.2.1 = rAt (prods x0 x1) u r 25 := by
  unfold runLater
  dsimp only
  sl_unfold_run_names
  rw [View.canon_unit_zero (S := S32x512) hz2]
  simp only [View.readAt_eq_ld, harg3.read_unread, harg4.read_unread, harg6.read_unread, harg7.read_unread, View.ld_unit_zero (S := S32x512) hz2,
    View.ld_unit_zero (S := S25x32x1024) hz3, View.ld_unit_zero (S := S1024x512) hz2, readCov_rows (m := 800) arg8.view (by decide),
    k1_pay2, k1_pay3, shapeCast_self]
  rfl

end Cert.KernelIdeal.Layer2

end
-- ==== Proof.Layer2.Region.lean ====
module

public import proofs.«01_k».proof.Proof.Layer2.Pieces

@[expose] public section

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Slayer

variable {F : FTy → Type} [FloatOps F]

local notation "𝕄" => MT nD τ sig Unit (Elt F) ℕ (UR sig nD τ) ℕ

/-! # The layer's launch: what every grid point holds, from the arrays the launch finds

`V` is the contents of the buffers as the launch finds them. -/

section Region

variable (V : (c : Dev nD) → (b : Ref sig .tc) → Buf (Elt F) ((c : Thread nD τ).loc b))

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The product of time step `k`, counted over all points: step `k % 25` of point `k / 25`. -/
def z (c : Dev nD) (k : ℕ) : FVec F S32x512 .f32 :=
  if h : k / 25 < cfg1.N then prods (iblk V c 0 ⟨k / 25, h⟩) (iblk V c 1 ⟨k / 25, h⟩) (k % 25) else zeros

/-- The membrane current before point `n`: the recurrence from zeros, `25 n` steps on. -/
def u (c : Dev nD) (n : ℕ) : FVec F S32x512 .f32 := uAt (z V c) zeros (25 * n)

/-- The refractory current before point `n`. -/
def r (c : Dev nD) (n : ℕ) : FVec F S32x512 .f32 := rAt (z V c) zeros zeros (25 * n)

/-- The result block of point `n`: the spikes of its 25 steps. -/
def out (c : Dev nD) (n : ℕ) : Vec F S25x32x512 .i8 := stack fun j => fptosi 8 (spikeAt (z V c) zeros zeros (25 * n + j))

/-- A point's own products are the whole recurrence's at its 25 steps. -/
theorem prods_eq (c : Dev nD) (t : Fin cfg1.N) (j : ℕ) (hj : j < 25) :
    prods (iblk V c 0 t) (iblk V c 1 t) j = z V c (25 * t.val + j) := by
  have e : (25 * t.val + j) / 25 = t.val := by omega
  have e' : (25 * t.val + j) % 25 = j := by omega
  unfold z
  rw [dif_pos (by rw [e]; exact t.isLt), e']
  have ht : (⟨(25 * t.val + j) / 25, by rw [e]; exact t.isLt⟩ : Fin cfg1.N) = t := Fin.ext e
  rw [ht]

/-- Point `t` carries the membrane current on by its 25 steps. -/
theorem u_step (c : Dev nD) (t : Fin cfg1.N) :
    uAt (prods (iblk V c 0 t) (iblk V c 1 t)) (u V c t.val) 25 = u V c (t.val + 1) :=
  (uAt_congr _ fun j hj => prods_eq V c t j hj).trans (uAt_add (z V c) zeros (25 * t.val) 25)

/-- The same for the refractory current. -/
theorem r_step (c : Dev nD) (t : Fin cfg1.N) :
    rAt (prods (iblk V c 0 t) (iblk V c 1 t)) (u V c t.val) (r V c t.val) 25 = r V c (t.val + 1) :=
  (rAt_congr _ _ fun j hj => prods_eq V c t j hj).trans (rAt_add (z V c) zeros zeros (25 * t.val) 25)

/-- And its result block is `out`. -/
theorem block_step (c : Dev nD) (t : Fin cfg1.N) :
    block (iblk V c 0 t) (iblk V c 1 t) (u V c t.val) (r V c t.val) = out V c t.val :=
  stack_congr fun j hj => congrArg _ ((spikeAt_congr _ _ fun i hi => prods_eq V c t i (by omega)).trans
    (spikeAt_add (z V c) zeros zeros (25 * t.val) j))

/-! ## The buffers a point works on -/

abbrev ms0 (t : Fin cfg1.N) : Memref sig .tc .vmem S25x32x1024 .i8 := win1_0.stage (cfg1.slots t 0)
abbrev ms1 (t : Fin cfg1.N) : Memref sig .tc .vmem S1024x512 .bf16 := win1_1.stage (cfg1.slots t 1)
abbrev ms2 (t : Fin cfg1.N) : Memref sig .tc .vmem S25x32x512 .i8 := win1_2.stage (cfg1.slots t 2)
/-- The scratch that carries the membrane current, -/
abbrev scU : Memref sig .tc .vmem S32x512 .f32 := Memref.whole cc1_scratch0
/-- the one that carries the refractory current, -/
abbrev scR : Memref sig .tc .vmem S32x512 .f32 := Memref.whole cc1_scratch1
/-- and the one that holds a point's products. -/
abbrev scZ : Memref sig .tc .vmem S800x512 .f32 := Memref.whole cc1_scratch2

/-- The invariant the launch starts from: the layer's scratch and the other launch's buffers, each at anything, and the generator register. -/
theorem PhiA_eq (c : Dev nD) : (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) scU fullShare d) ∗ (∃ d, owns (c : Thread nD τ) scR fullShare d) ∗ (∃ d, owns (c : Thread nD τ) scZ fullShare d)) ∗ (∃ r, prngReg c r)) := by
  unfold Pipeline.ΦA; rw [scopedRest1_eq]; simp only [scU, scR, scZ, owns_whole]; try rfl

/-- The invariant before point `n`: as the launch starts before the first point; after that the two currents at `u` and `r`. -/
def Phi (c : Dev nD) : (n : ℕ) → n ≤ cfg1.N → sProp 𝕄
  | 0, _ => Pipeline.ΦA spec1 c
  | n + 1, _ => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scU fullShare (u V c (n + 1)) ∗ owns (c : Thread nD τ) scR fullShare (r V c (n + 1)) ∗ (∃ d, owns (c : Thread nD τ) scZ fullShare d)) ∗ (∃ r, prngReg c r))

theorem Phi_zero (c : Dev nD) (n : ℕ) (h : n ≤ cfg1.N) (hz : n = 0) : Phi V c n h = Pipeline.ΦA spec1 c := by
  subst hz; rfl

theorem Phi_succ (c : Dev nD) (n : ℕ) (h : n + 1 ≤ cfg1.N) :
    Phi V c (n + 1) h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scU fullShare (u V c (n + 1)) ∗ owns (c : Thread nD τ) scR fullShare (r V c (n + 1)) ∗ (∃ d, owns (c : Thread nD τ) scZ fullShare d)) ∗ (∃ r, prngReg c r)) := rfl

theorem Phi_pos (c : Dev nD) (n : ℕ) (h : n ≤ cfg1.N) (hz : n ≠ 0) :
    Phi V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scU fullShare (u V c n) ∗ owns (c : Thread nD τ) scR fullShare (r V c n) ∗ (∃ d, owns (c : Thread nD τ) scZ fullShare d)) ∗ (∃ r, prngReg c r)) := by
  cases n with
  | zero => exact absurd rfl hz
  | succ n => rfl

/-- The proof data of the launch: the arrays as found; after point `t` the inputs' buffers at their blocks, the result's at `out`;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out V c t.val
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) : (dat V c).Φ t.castSucc = Phi V c t.val (Nat.le_of_lt t.isLt) := by
  dsimp only [dat]; exact Pipeline.Dat.Φ_castSucc (Phi V c) t

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = out V c t.val := by dsimp only [dat]

/-- An input window's buffer holds its block at every point, fetched there or not: unfetched, the block has not moved. -/
theorem before0 (c : Dev nD) (t : Fin cfg1.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t))

set_option maxHeartbeats 3200000 in
/-- The body takes what it is called with to what it returns, at the first point and at a later one. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl, after0, after1, after2]
  rw [show (dat V c).Φ t.succ = Phi V c (t.val + 1) t.isLt from rfl, Phi_succ]
  by_cases hz : t.val = 0
  · have eu := (congrArg (fun w => uAt _ w 25) (by rw [hz]; rfl : zeros = u V c t.val)).trans (u_step V c t)
    have er := (congrArg₂ (fun w w' => rAt _ w w' 25) (by rw [hz]; rfl : zeros = u V c t.val) (by rw [hz]; rfl : zeros = r V c t.val)).trans (r_step V c t)
    have eb := (congrArg₂ (fun w w' => block (iblk V c 0 t) (iblk V c 1 t) w w') (by rw [hz]; rfl : zeros = u V c t.val) (by rw [hz]; rfl : zeros = r V c t.val)).trans (block_step V c t)
    rw [Phi_castSucc V c t, Phi_zero V c _ _ hz, PhiA_eq]
    iintro ⟨⟨⟨HR0, HR1, HR2, HR3, HR4, HR5, HR6, HR7, HS0, HS1, HS2⟩, Hg⟩, Ho, ⟨%d0, H0⟩, ⟨%d1, H1⟩, ⟨%d2, H2⟩⟩
    iapply ((runFirst c (grid1.coords t) _ _ _ _ _ _ _ _ _ _ _ _ ((isFirst_iff t).mpr hz) (iblk V c 0 t) (iblk V c 1 t)).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%fT2, HS2⟩⟩
    isplitl [HR0 HR1 HR2 HR3 HR4 HR5 HR6 HR7 HS0 HS1 HS2 Hg]
    · isplitl [HR0 HR1 HR2 HR3 HR4 HR5 HR6 HR7 HS0 HS1 HS2]
      ·
        isplitl [HR0]
        · iexact HR0
        isplitl [HR1]
        · iexact HR1
        isplitl [HR2]
        · iexact HR2
        isplitl [HR3]
        · iexact HR3
        isplitl [HR4]
        · iexact HR4
        isplitl [HR5]
        · iexact HR5
        isplitl [HR6]
        · iexact HR6
        isplitl [HR7]
        · iexact HR7
        isplitl [HS0]
        · unfold owns; iexists _; isplitr
          swap; · iexact HS0
          ipureintro; exact (View.read_writes_eq_canon _ _ _ (first_cover_u c _ _ _ _ _ _ _ _ _ _ _ _ _ ((isFirst_iff t).mpr hz) _ _)).trans ((first_u c _ _ _ _ _ _ _ _ _ _ _ _ _ ((isFirst_iff t).mpr hz) _ _).trans (eu))
        isplitl [HS1]
        · unfold owns; iexists _; isplitr
          swap; · iexact HS1
          ipureintro; exact (View.read_writes_eq_canon _ _ _ (first_cover_r c _ _ _ _ _ _ _ _ _ _ _ _ _ ((isFirst_iff t).mpr hz) _ _)).trans ((first_r c _ _ _ _ _ _ _ _ _ _ _ _ _ ((isFirst_iff t).mpr hz) _ _).trans (er))
        iexists _; unfold owns; iexists _; isplitr
        swap; · iexact HS2
        ipureintro; rfl
      iexact Hg
    isplitl [Ho]; · iexact Ho
    isplitl [H0]; · iexact H0
    isplitl [H1]; · iexact H1
    unfold owns; iexists _; isplitr
    swap; · iexact H2
    ipureintro; exact (read_of_pieces _ _ _ _ (first_block c _ _ _ _ _ _ _ _ _ _ _ _ _ ((isFirst_iff t).mpr hz) _ _) (first_cover c _ _ _ _ _ _ _ _ _ _ _ _ _ ((isFirst_iff t).mpr hz) _ _)).trans eb
  · have eu := u_step V c t
    have er := r_step V c t
    have eb := block_step V c t
    rw [Phi_castSucc V c t, Phi_pos V c _ _ hz]
    iintro ⟨⟨⟨HR0, HR1, HR2, HR3, HR4, HR5, HR6, HR7, HS0, HS1, HS2⟩, Hg⟩, Ho, ⟨%d0, H0⟩, ⟨%d1, H1⟩, ⟨%d2, H2⟩⟩
    iapply ((runLater c (grid1.coords t) _ _ _ _ _ _ _ _ _ _ _ _ (fun h => hz ((isFirst_iff t).mp h)) (iblk V c 0 t) (iblk V c 1 t) (u V c t.val) (r V c t.val)).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%fT2, HS2⟩⟩
    isplitl [HR0 HR1 HR2 HR3 HR4 HR5 HR6 HR7 HS0 HS1 HS2 Hg]
    · isplitl [HR0 HR1 HR2 HR3 HR4 HR5 HR6 HR7 HS0 HS1 HS2]
      ·
        isplitl [HR0]
        · iexact HR0
        isplitl [HR1]
        · iexact HR1
        isplitl [HR2]
        · iexact HR2
        isplitl [HR3]
        · iexact HR3
        isplitl [HR4]
        · iexact HR4
        isplitl [HR5]
        · iexact HR5
        isplitl [HR6]
        · iexact HR6
        isplitl [HR7]
        · iexact HR7
        isplitl [HS0]
        · unfold owns; iexists _; isplitr
          swap; · iexact HS0
          ipureintro; exact (View.read_writes_eq_canon _ _ _ (later_cover_u c _ _ _ _ _ _ _ _ _ _ _ _ _ (fun h => hz ((isFirst_iff t).mp h)) _ _ _ _)).trans ((later_u c _ _ _ _ _ _ _ _ _ _ _ _ _ (fun h => hz ((isFirst_iff t).mp h)) _ _ _ _).trans (eu))
        isplitl [HS1]
        · unfold owns; iexists _; isplitr
          swap; · iexact HS1
          ipureintro; exact (View.read_writes_eq_canon _ _ _ (later_cover_r c _ _ _ _ _ _ _ _ _ _ _ _ _ (fun h => hz ((isFirst_iff t).mp h)) _ _ _ _)).trans ((later_r c _ _ _ _ _ _ _ _ _ _ _ _ _ (fun h => hz ((isFirst_iff t).mp h)) _ _ _ _).trans (er))
        iexists _; unfold owns; iexists _; isplitr
        swap; · iexact HS2
        ipureintro; rfl
      iexact Hg
    isplitl [Ho]; · iexact Ho
    isplitl [H0]; · iexact H0
    isplitl [H1]; · iexact H1
    unfold owns; iexists _; isplitr
    swap; · iexact H2
    ipureintro; exact (read_of_pieces _ _ _ _ (later_block c _ _ _ _ _ _ _ _ _ _ _ _ _ (fun h => hz ((isFirst_iff t).mp h)) _ _ _ _) (later_cover c _ _ _ _ _ _ _ _ _ _ _ _ _ (fun h => hz ((isFirst_iff t).mp h)) _ _ _ _)).trans eb

/-- The body table's row at point `t` is the body. -/
theorem defs₀_row (t : Fin cfg1.N) : defs₀ (F := F) .tc cfg1.body (cfg1.bodyArgs t (cfg1.slots t)) = bodyAt1 t := by
  unfold defs₀; rw [Defs.onTc_tc]

/-- The body's obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch starts from is the invariant before the first point, -/
theorem hin (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- and after the last point the currents' values may be forgotten again. -/
theorem hout (c : Dev nD) : (dat V c).Φ (Fin.last cfg1.N) ⊢ Pipeline.ΦA spec1 c := by
  rw [show (dat V c).Φ (Fin.last cfg1.N) = Phi V c cfg1.N le_rfl from rfl,
    Phi_pos V c _ _ (by have : cfg1.N = 12 := N_1; omega), PhiA_eq]
  iintro ⟨⟨HR0, HR1, HR2, HR3, HR4, HR5, HR6, HR7, HS0, HS1, HS2⟩, Hg⟩
  isplitl [HR0 HR1 HR2 HR3 HR4 HR5 HR6 HR7 HS0 HS1 HS2]
  ·
    isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HS0]
    · iexists _; iexact HS0
    isplitl [HS1]
    · iexists _; iexact HS1
    iexact HS2
  iexact Hg

end Region

end Cert.KernelIdeal.Layer2

end
-- ==== Proof.Run.lean ====
/-
  The run of the whole program: from any memory, every execution ends with the result array at what the three host stretches
  and the two layers' launches leave in it, the arguments as they were, and every counter at zero.
-/
module

public import proofs.«01_k».proof.Proof.Layer1.Region
public import proofs.«01_k».proof.Proof.Layer2.Region
public import proofs.«01_k».proof.Proof.Gen.KernelIdeal.Regions
public import Idealize.ShloMosaic.Lib.Pipeline.FrameSuffix
public import Idealize.ShloMosaic.Lib.Pipeline.RegionsLoop

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen hiding adm segs V0 V1 V2 V3 V4 V5

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program's run: the host's three stretches and the two layers' launches between them -/

/-- The argument arrays. -/
abbrev argRefs : List (Ref sig .tc) := [main_arg0, main_arg1, main_arg2]

/-- No host stretch writes an argument. -/
theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (Layer1.dat (V1 m ρ) c).arrAt w cfg0.N
theorem W2_arr (c : Dev nD) (w : Fin cfg0.W) :
    W2 m ρ c (Proc.devRef .tc (Pipeline.arrRef spec0 w)) = (Layer1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `Layer1.A_eq`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Layer1.dat (V1 m ρ) c).arrAt_in w (h w rfl) _).trans (Layer1.A_eq (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (Layer1.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (Layer2.dat (V3 m ρ) c).arrAt w cfg1.N
theorem W4_arr (c : Dev nD) (w : Fin cfg1.W) :
    W4 m ρ c (Proc.devRef .tc (Pipeline.arrRef spec1 w)) = (Layer2.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `Layer2.A_eq`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((Layer2.dat (V3 m ρ) c).arrAt_in w (h w rfl) _).trans (Layer2.A_eq (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (Layer2.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => Layer1.dat (V1 m ρ) c
  | ⟨1, _⟩ => fun c => Layer2.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (Layer1.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Layer1.hin (V1 m ρ) c)
    unfold Pipeline.ΦA
    iintro ⟨Hp, -, Hr⟩
    isplitl [Hr]; · iexact Hr
    iexact Hp
  hout c := by
    rw [Pipeline.ownSems0_none]
    refine BIBase.Entails.trans (Layer1.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer2.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (Layer2.A_eq (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Layer2.hin (V3 m ρ) c)
    unfold Pipeline.ΦA
    iintro ⟨Hp, -, Hr⟩
    isplitl [Hr]; · iexact Hr
    iexact Hp
  hout c := by
    rw [Pipeline.ownSems0_none]
    refine BIBase.Entails.trans (Layer2.hout (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The arguments are unscoped buffers. -/
theorem args_unscoped : ∀ a ∈ argRefs, ¬ (Proc.devRef .tc a : DevRef τ sig).isScoped := ListAll.forall_mem_of_all_decide (by decide +kernel)

-- `θ_run_regions_kit_sems`'s implicit arguments are found by unifying its conclusion with this one, which takes unfolding
-- plain definitions in a metavariable's type
set_option backward.isDefEq.respectTransparency.types false in
/-- THE RUN: from any memory with zero counters, every weakly fair execution of the program terminates with nothing faulting; in every
    final state the result array holds what the last stretch leaves there, the arguments are as launched, and every semaphore counter
    is at zero. The last thread state is read against the final state (`pointsTo_read_all`), each argument by `W5_args`. -/
theorem run : θ_run defs (onTc (τ := τ) (main (F := F))) ⟨m, fun _ => 0, ρ⟩ (fun r => (∀ c : Dev nD,
      r.2.mem ((c.tc : Thread nD τ).loc main_v11) = W5 m ρ c (Proc.devRef .tc main_v11)
      ∧ ∀ a ∈ argRefs, r.2.mem ((c.tc : Thread nD τ).loc a) = m ((c.tc : Thread nD τ).loc a))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c => ⟨h c _ (mem_uc main_v11 (by decide)),
      fun a ha => (h c _ (mem_uc a (args_unscoped a ha))).trans (W5_args m ρ c a ha)⟩), funext fun g => hz g (.inr (regions_no_unscoped g.2))⟩)

end Cert.KernelIdeal.Run

end
-- ==== Proof.Reference.Ops.lean ====
/- The reference program's host operations as lists: the three stretches of its main line (before the first time loop, between the
   two loops, after the second), and each loop's body and condition. For each list: that it touches ordinary buffers only, that it
   allocates none, and which buffer each operation writes. Last, that the printed program is these stretches and the two loops in order. -/
module

public import proofs.«01_k».proof.Proof.Gen.ReferenceIdeal
public import Idealize.ShloMosaic.Lib.Pipeline.Regions
public import Idealize.ShloMosaic.Lib.StableHlo.RunLoop

@[expose] public section

noncomputable section

namespace Cert.ReferenceIdeal.Ops

open Idealize.ShloMosaic Idealize.ShloMosaic.TcCoe
open Idealize.SL.Sem Cert.ReferenceIdeal Cert.ReferenceIdeal.Gen

variable {F : FTy → Type} [FloatOps F]

/-- The main line before the first time loop: the first layer's products, time first, and the loop's starting values. -/
abbrev before0 : List (HloOp τ sig (Elt F)) :=
  [ StableHlo.binary main_arg1 main_arg0 main_v0 ((fun l r => Host.dotGeneral dot_S1024x2048_S32x2048x300_S1024x32x300_1_1_0_02_n_n none l r) : (⟨S1024x2048, .f32⟩ : BufTy).Contents (Elt F) → (⟨S32x2048x300, .f32⟩ : BufTy).Contents (Elt F) → (⟨S1024x32x300, .f32⟩ : BufTy).Contents (Elt F)),
    StableHlo.unary main_v0 main_v1 ((transpose S32x1024x300 [1, 0, 2] · transposes_S1024x32x300_S32x1024x300_1_0_2) : (⟨S1024x32x300, .f32⟩ : BufTy).Contents (Elt F) → (⟨S32x1024x300, .f32⟩ : BufTy).Contents (Elt F)),
    StableHlo.unary main_v1 main_v2 ((transpose S300x32x1024 [2, 0, 1] · transposes_S32x1024x300_S300x32x1024_2_0_1) : (⟨S32x1024x300, .f32⟩ : BufTy).Contents (Elt F) → (⟨S300x32x1024, .f32⟩ : BufTy).Contents (Elt F)),
    StableHlo.nullary main_cst (constant S_ .f32 0x00000000#32),
    StableHlo.unary main_cst main_v3 (broadcastInDim S32x1024 ![] bcast_S_S32x1024 : (⟨S_, .f32⟩ : BufTy).Contents (Elt F) → (⟨S32x1024, .f32⟩ : BufTy).Contents (Elt F)),
    StableHlo.nullary main_cst_0 (constant S_ .f32 0x00000000#32),
    StableHlo.unary main_cst_0 main_v4 (broadcastInDim S300x32x1024 ![] bcast_S_S300x32x1024 : (⟨S_, .f32⟩ : BufTy).Contents (Elt F) → (⟨S300x32x1024, .f32⟩ : BufTy).Contents (Elt F)),
    StableHlo.nullary main_c (constantI S_ 32 0#32),
    StableHlo.unary main_v2 main_v5_0 id,
    StableHlo.unary main_c main_v5_1 id,
    StableHlo.unary main_v3 main_v5_2 id,
    StableHlo.unary main_v3 main_v5_3 id,
    StableHlo.unary main_v4 main_v5_4 id ]
theorem before0_sub : (before0 : List (HloOp τ sig (Elt F))).Forall fun op => op.bufs ⊆ StableHlo.tcRefs τ sig :=
  ⟨StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
theorem before0_fresh : (before0 : List (HloOp τ sig (Elt F))).Forall fun op => op.fresh = ∅ := StableHlo.forall_fresh_of_map rfl
abbrev before0_W : List (Ref sig .tc) := [main_v0, main_v1, main_v2, main_cst, main_v3, main_cst_0, main_v4, main_c, main_v5_0, main_v5_1, main_v5_2, main_v5_3, main_v5_4]
theorem before0_writes : (before0 : List (HloOp τ sig (Elt F))).Forall fun op => op.writes ⊆ (before0_W.map (Proc.devRef (τ := τ) .tc)).toFinset :=
  StableHlo.forall_writes_sub_of_map rfl

/-- The main line between the loops: the first layer's spikes put back in the input's order, the second layer's products, time first, and the second loop's starting values. -/
abbrev between : List (HloOp τ sig (Elt F)) :=
  [ StableHlo.unary main_v5_4 main_v6 ((transpose S32x1024x300 [1, 2, 0] · transposes_S300x32x1024_S32x1024x300_1_2_0) : (⟨S300x32x1024, .f32⟩ : BufTy).Contents (Elt F) → (⟨S32x1024x300, .f32⟩ : BufTy).Contents (Elt F)),
    StableHlo.binary main_arg2 main_v6 main_v7 ((fun l r => Host.dotGeneral dot_S512x1024_S32x1024x300_S512x32x300_1_1_0_02_n_n none l r) : (⟨S512x1024, .f32⟩ : BufTy).Contents (Elt F) → (⟨S32x1024x300, .f32⟩ : BufTy).Contents (Elt F) → (⟨S512x32x300, .f32⟩ : BufTy).Contents (Elt F)),
    StableHlo.unary main_v7 main_v8 ((transpose S32x512x300 [1, 0, 2] · transposes_S512x32x300_S32x512x300_1_0_2) : (⟨S512x32x300, .f32⟩ : BufTy).Contents (Elt F) → (⟨S32x512x300, .f32⟩ : BufTy).Contents (Elt F)),
    StableHlo.unary main_v8 main_v9 ((transpose S300x32x512 [2, 0, 1] · transposes_S32x512x300_S300x32x512_2_0_1) : (⟨S32x512x300, .f32⟩ : BufTy).Contents (Elt F) → (⟨S300x32x512, .f32⟩ : BufTy).Contents (Elt F)),
    StableHlo.nullary main_cst_1 (constant S_ .f32 0x00000000#32),
    StableHlo.unary main_cst_1 main_v10 (broadcastInDim S32x512 ![] bcast_S_S32x512 : (⟨S_, .f32⟩ : BufTy).Contents (Elt F) → (⟨S32x512, .f32⟩ : BufTy).Contents (Elt F)),
    StableHlo.nullary main_cst_2 (constant S_ .f32 0x00000000#32),
    StableHlo.unary main_cst_2 main_v11 (broadcastInDim S300x32x512 ![] bcast_S_S300x32x512 : (⟨S_, .f32⟩ : BufTy).Contents (Elt F) → (⟨S300x32x512, .f32⟩ : BufTy).Contents (Elt F)),
    StableHlo.nullary main_c_3 (constantI S_ 32 0#32),
    StableHlo.unary main_v9 main_v12_0 id,
    StableHlo.unary main_c_3 main_v12_1 id,
    StableHlo.unary main_v10 main_v12_2 id,
    StableHlo.unary main_v10 main_v12_3 id,
    StableHlo.unary main_v11 main_v12_4 id ]
theorem between_sub : (between : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
theorem between_fresh : (between : List (HloOp τ sig (Elt F))).Forall fun op => op.fresh = ∅ := StableHlo.forall_fresh_of_map rfl
abbrev between_W : List (Ref sig .tc) := [main_v6, main_v7, main_v8, main_v9, main_cst_1, main_v10, main_cst_2, main_v11, main_c_3, main_v12_0, main_v12_1, main_v12_2, main_v12_3, main_v12_4]
theorem between_writes : (between : List (HloOp τ sig (Elt F))).Forall fun op => op.writes ⊆ (between_W.map (Proc.devRef (τ := τ) .tc)).toFinset :=
  StableHlo.forall_writes_sub_of_map rfl

/-- The main line after the second loop: the spikes put back in the input's order. -/
abbrev after1 : List (HloOp τ sig (Elt F)) :=
  [ StableHlo.unary main_v12_4 main_v13 ((transpose S32x512x300 [1, 2, 0] · transposes_S300x32x512_S32x512x300_1_2_0) : (⟨S300x32x512, .f32⟩ : BufTy).Contents (Elt F) → (⟨S32x512x300, .f32⟩ : BufTy).Contents (Elt F)) ]
theorem after1_sub : (after1 : List (HloOp τ sig (Elt F))).Forall fun op => op.bufs ⊆ StableHlo.tcRefs τ sig :=
  StableHlo.unary_bufs_sub ..
theorem after1_fresh : (after1 : List (HloOp τ sig (Elt F))).Forall fun op => op.fresh = ∅ := StableHlo.forall_fresh_of_map rfl
abbrev after1_W : List (Ref sig .tc) := [main_v13]
theorem after1_writes : (after1 : List (HloOp τ sig (Elt F))).Forall fun op => op.writes ⊆ (after1_W.map (Proc.devRef (τ := τ) .tc)).toFinset :=
  StableHlo.forall_writes_sub_of_map rfl

/-- Time loop 0, body: the current step's products cut out. -/
abbrev slice0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v5_0 : StableHlo.TRef sig ⟨S300x32x1024, .f32⟩) ![(.of main_v5_1 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x32x1024, .f32⟩) (fun x i => Host.dynamicSlice S1x32x1024 x (fun k => (i k (Shape.Idx.first h_S_)).toInt) sliceFits_S300x32x1024_S1x32x1024),
    StableHlo.TRef.reshape (.of main_while0b_call0_v0 : StableHlo.TRef sig ⟨S1x32x1024, .f32⟩) (.of main_while0b_v14 : StableHlo.TRef sig ⟨S32x1024, .f32⟩) (rfl : (.f32 : EltTy) = .f32) shapeCasts_S1x32x1024_S32x1024 ]
theorem slice0_sub : (slice0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem slice0_fresh : (slice0 : List (HloOp τ sig (Elt F))).Forall fun op => op.fresh = ∅ := StableHlo.forall_fresh_of_map rfl
abbrev slice0_W : List (Ref sig .tc) := [main_while0b_call0_c, main_while0b_call0_c_0, main_while0b_call0_v0, main_while0b_v14]
theorem slice0_writes : (slice0 : List (HloOp τ sig (Elt F))).Forall fun op => op.writes ⊆ (slice0_W.map (Proc.devRef (τ := τ) .tc)).toFinset :=
  StableHlo.forall_writes_sub_of_map rfl

/-- Time loop 0, body: one step of the neurons. -/
abbrev step0 : List (HloOp τ sig (Elt F)) :=
  [ StableHlo.nullary main_while0b_cst_8 (constant S_ .f32 0x3F67A36D#32),
    StableHlo.unary main_while0b_cst_8 main_while0b_v15 (broadcastInDim S32x1024 ![] bcast_S_S32x1024 : (⟨S_, .f32⟩ : BufTy).Contents (Elt F) → (⟨S32x1024, .f32⟩ : BufTy).Contents (Elt F)),
    StableHlo.binary main_while0b_v15 main_v5_2 main_while0b_v16 (mulf : (⟨S32x1024, .f32⟩ : BufTy).Contents (Elt F) → (⟨S32x1024, .f32⟩ : BufTy).Contents (Elt F) → (⟨S32x1024, .f32⟩ : BufTy).Contents (Elt F)),
    StableHlo.binary main_while0b_v16 main_while0b_v14 main_while0b_v17 (addf : (⟨S32x1024, .f32⟩ : BufTy).Contents (Elt F) → (⟨S32x1024, .f32⟩ : BufTy).Contents (Elt F) → (⟨S32x1024, .f32⟩ : BufTy).Contents (Elt F)),
    StableHlo.binary main_while0b_v17 main_v5_3 main_while0b_v18 (addf : (⟨S32x1024, .f32⟩ : BufTy).Contents (Elt F) → (⟨S32x1024, .f32⟩ : BufTy).Contents (Elt F) → (⟨S32x1024, .f32⟩ : BufTy).Contents (Elt F)),
    StableHlo.nullary main_while0b_cst_9 (constant S_ .f32 0x41200000#32),
    StableHlo.unary main_while0b_cst_9 main_while0b_v19 (broadcastInDim S32x1024 ![] bcast_S_S32x1024 : (⟨S_, .f32⟩ : BufTy).Contents (Elt F) → (⟨S32x1024, .f32⟩ : BufTy).Contents (Elt F)),
    StableHlo.binary main_while0b_v18 main_while0b_v19 main_while0b_v20 (subf : (⟨S32x1024, .f32⟩ : BufTy).Contents (Elt F) → (⟨S32x1024, .f32⟩ : BufTy).Contents (Elt F) → (⟨S32x1024, .f32⟩ : BufTy).Contents (Elt F)),
    StableHlo.nullary main_while0b_cst_10 (constant S_ .f32 0x3F800000#32),
    StableHlo.unary main_while0b_cst_10 main_while0b_v21 (broadcastInDim S32x1024 ![] bcast_S_S32x1024 : (⟨S_, .f32⟩ : BufTy).Contents (Elt F) → (⟨S32x1024, .f32⟩ : BufTy).Contents (Elt F)),
    StableHlo.binary main_while0b_v20 main_while0b_v21 main_while0b_v22 (Host.divf : (⟨S32x1024, .f32⟩ : BufTy).Contents (Elt F) → (⟨S32x1024, .f32⟩ : BufTy).Contents (Elt F) → (⟨S32x1024, .f32⟩ : BufTy).Contents (Elt F)),
    StableHlo.unary main_while0b_v22 main_while0b_v23 (Host.negf : (⟨S32x1024, .f32⟩ : BufTy).Contents (Elt F) → (⟨S32x1024, .f32⟩ : BufTy).Contents (Elt F)),
    StableHlo.unary main_while0b_v23 main_while0b_v24 (Host.exp : (⟨S32x1024, .f32⟩ : BufTy).Contents (Elt F) → (⟨S32x1024, .f32⟩ : BufTy).Contents (Elt F)),
    StableHlo.nullary main_while0b_cst_11 (constant S_ .f32 0x3F800000#32),
    StableHlo.unary main_while0b_cst_11 main_while0b_v25 (broadcastInDim S32x1024 ![] bcast_S_S32x1024 : (⟨S_, .f32⟩ : BufTy).Contents (Elt F) → (⟨S32x1024, .f32⟩ : BufTy).Contents (Elt F)),
    StableHlo.binary main_while0b_v25 main_while0b_v24 main_while0b_v26 (addf : (⟨S32x1024, .f32⟩ : BufTy).Contents (Elt F) → (⟨S32x1024, .f32⟩ : BufTy).Contents (Elt F) → (⟨S32x1024, .f32⟩ : BufTy).Contents (Elt F)),
    StableHlo.nullary main_while0b_cst_12 (constant S_ .f32 0x3F800000#32),
    StableHlo.unary main_while0b_cst_12 main_while0b_v27 (broadcastInDim S32x1024 ![] bcast_S_S32x1024 : (⟨S_, .f32⟩ : BufTy).Contents (Elt F) → (⟨S32x1024, .f32⟩ : BufTy).Contents (Elt F)),
    StableHlo.binary main_while0b_v27 main_while0b_v26 main_while0b_v28 (Host.divf : (⟨S32x1024, .f32⟩ : BufTy).Contents (Elt F) → (⟨S32x1024, .f32⟩ : BufTy).Contents (Elt F) → (⟨S32x1024, .f32⟩ : BufTy).Contents (Elt F)),
    StableHlo.nullary main_while0b_cst_13 (constant S_ .f32 0x00000000#32),
    StableHlo.unary main_while0b_cst_13 main_while0b_v29 (broadcastInDim S32x1024 ![] bcast_S_S32x1024 : (⟨S_, .f32⟩ : BufTy).Contents (Elt F) → (⟨S32x1024, .f32⟩ : BufTy).Contents (Elt F)),
    StableHlo.binary main_while0b_v20 main_while0b_v29 main_while0b_v30 (cmpf .oge : (⟨S32x1024, .f32⟩ : BufTy).Contents (Elt F) → (⟨S32x1024, .f32⟩ : BufTy).Contents (Elt F) → (⟨S32x1024, .i1⟩ : BufTy).Contents (Elt F)),
    StableHlo.unary main_while0b_v30 main_while0b_v31 (uitofp .f32 : (⟨S32x1024, .i1⟩ : BufTy).Contents (Elt F) → (⟨S32x1024, .f32⟩ : BufTy).Contents (Elt F)),
    StableHlo.binary main_while0b_v31 main_while0b_v28 main_while0b_v32 (subf : (⟨S32x1024, .f32⟩ : BufTy).Contents (Elt F) → (⟨S32x1024, .f32⟩ : BufTy).Contents (Elt F) → (⟨S32x1024, .f32⟩ : BufTy).Contents (Elt F)),
    StableHlo.binary main_while0b_v32 main_while0b_v28 main_while0b_v33 (addf : (⟨S32x1024, .f32⟩ : BufTy).Contents (Elt F) → (⟨S32x1024, .f32⟩ : BufTy).Contents (Elt F) → (⟨S32x1024, .f32⟩ : BufTy).Contents (Elt F)),
    StableHlo.nullary main_while0b_cst_14 (constant S_ .f32 0x3F1B4598#32),
    StableHlo.unary main_while0b_cst_14 main_while0b_v34 (broadcastInDim S32x1024 ![] bcast_S_S32x1024 : (⟨S_, .f32⟩ : BufTy).Contents (Elt F) → (⟨S32x1024, .f32⟩ : BufTy).Contents (Elt F)),
    StableHlo.binary main_while0b_v34 main_v5_3 main_while0b_v35 (mulf : (⟨S32x1024, .f32⟩ : BufTy).Contents (Elt F) → (⟨S32x1024, .f32⟩ : BufTy).Contents (Elt F) → (⟨S32x1024, .f32⟩ : BufTy).Contents (Elt F)),
    StableHlo.nullary main_while0b_cst_15 (constant S_ .f32 0x41A00000#32),
    StableHlo.unary main_while0b_cst_15 main_while0b_v36 (broadcastInDim S32x1024 ![] bcast_S_S32x1024 : (⟨S_, .f32⟩ : BufTy).Contents (Elt F) → (⟨S32x1024, .f32⟩ : BufTy).Contents (Elt F)),
    StableHlo.binary main_while0b_v36 main_while0b_v33 main_while0b_v37 (mulf : (⟨S32x1024, .f32⟩ : BufTy).Contents (Elt F) → (⟨S32x1024, .f32⟩ : BufTy).Contents (Elt F) → (⟨S32x1024, .f32⟩ : BufTy).Contents (Elt F)),
    StableHlo.binary main_while0b_v35 main_while0b_v37 main_while0b_v38 (subf : (⟨S32x1024, .f32⟩ : BufTy).Contents (Elt F) → (⟨S32x1024, .f32⟩ : BufTy).Contents (Elt F) → (⟨S32x1024, .f32⟩ : BufTy).Contents (Elt F)) ]
theorem step0_sub : (step0 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem step0_fresh : (step0 : List (HloOp τ sig (Elt F))).Forall fun op => op.fresh = ∅ := StableHlo.forall_fresh_of_map rfl
abbrev step0_W : List (Ref sig .tc) := [main_while0b_cst_8, main_while0b_v15, main_while0b_v16, main_while0b_v17, main_while0b_v18, main_while0b_cst_9, main_while0b_v19, main_while0b_v20, main_while0b_cst_10, main_while0b_v21, main_while0b_v22, main_while0b_v23, main_while0b_v24, main_while0b_cst_11, main_while0b_v25, main_while0b_v26, main_while0b_cst_12, main_while0b_v27, main_while0b_v28, main_while0b_cst_13, main_while0b_v29, main_while0b_v30, main_while0b_v31, main_while0b_v32, main_while0b_v33, main_while0b_cst_14, main_while0b_v34, main_while0b_v35, main_while0b_cst_15, main_while0b_v36, main_while0b_v37, main_while0b_v38]
theorem step0_writes : (step0 : List (HloOp τ sig (Elt F))).Forall fun op => op.writes ⊆ (step0_W.map (Proc.devRef (τ := τ) .tc)).toFinset :=
  StableHlo.forall_writes_sub_of_map rfl

/-- Time loop 0, body: the step's spikes put at their place. -/
abbrev put0 : List (HloOp τ sig (Elt F)) :=
  [ StableHlo.TRef.unary (.of main_while0b_v33 : StableHlo.TRef sig ⟨S32x1024, .f32⟩) (.of main_while0b_call1_v0 : StableHlo.TRef sig ⟨S1x32x1024, .f32⟩) (broadcastInDim S1x32x1024 ![1, 2] bcast_S32x1024_S1x32x1024_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v5_4 : StableHlo.TRef sig ⟨S300x32x1024, .f32⟩) (.of main_while0b_call1_v0 : StableHlo.TRef sig ⟨S1x32x1024, .f32⟩) ![(.of main_v5_1 : StableHlo.TRef sig ⟨S_, .i32⟩), (.of main_while0b_call1_c : StableHlo.TRef sig ⟨S_, .i32⟩), (.of main_while0b_call1_c_0 : StableHlo.TRef sig ⟨S_, .i32⟩)] (.of main_while0b_v39 : StableHlo.TRef sig ⟨S300x32x1024, .f32⟩) (fun x u i => Host.dynamicUpdateSlice x u (fun k => (i k (Shape.Idx.first h_S_)).toInt) updateFits_S300x32x1024_S1x32x1024) ]
theorem put0_sub : (put0 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem put0_fresh : (put0 : List (HloOp τ sig (Elt F))).Forall fun op => op.fresh = ∅ := StableHlo.forall_fresh_of_map rfl
abbrev put0_W : List (Ref sig .tc) := [main_while0b_call1_v0, main_while0b_call1_c, main_while0b_call1_c_0, main_while0b_v39]
theorem put0_writes : (put0 : List (HloOp τ sig (Elt F))).Forall fun op => op.writes ⊆ (put0_W.map (Proc.devRef (τ := τ) .tc)).toFinset :=
  StableHlo.forall_writes_sub_of_map rfl

/-- Time loop 0, body: the step number advanced and the carried values handed on. -/
abbrev carry0 : List (HloOp τ sig (Elt F)) :=
  [ StableHlo.nullary main_while0b_c_16 (constantI S_ 32 1#32),
    StableHlo.binary main_v5_1 main_while0b_c_16 main_while0b_v40 (addi : (⟨S_, .i32⟩ : BufTy).Contents (Elt F) → (⟨S_, .i32⟩ : BufTy).Contents (Elt F) → (⟨S_, .i32⟩ : BufTy).Contents (Elt F)),
    StableHlo.unary main_while0b_v40 main_v5_1 id,
    StableHlo.unary main_while0b_v17 main_v5_2 id,
    StableHlo.unary main_while0b_v38 main_v5_3 id,
    StableHlo.unary main_while0b_v39 main_v5_4 id ]
theorem carry0_sub : (carry0 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem carry0_fresh : (carry0 : List (HloOp τ sig (Elt F))).Forall fun op => op.fresh = ∅ := StableHlo.forall_fresh_of_map rfl
abbrev carry0_W : List (Ref sig .tc) := [main_while0b_c_16, main_while0b_v40, main_v5_1, main_v5_2, main_v5_3, main_v5_4]
theorem carry0_writes : (carry0 : List (HloOp τ sig (Elt F))).Forall fun op => op.writes ⊆ (carry0_W.map (Proc.devRef (τ := τ) .tc)).toFinset :=
  StableHlo.forall_writes_sub_of_map rfl

/-- Time loop 0, condition: the step number compared with 300. -/
abbrev cond0 : List (HloOp τ sig (Elt F)) :=
  [ StableHlo.nullary main_while0c_c_8 (constantI S_ 32 300#32),
    StableHlo.binary main_v5_1 main_while0c_c_8 main_while0c_v14 (cmpi .slt) ]
theorem cond0_sub : (cond0 : List (HloOp τ sig (Elt F))).Forall fun op => op.bufs ⊆ StableHlo.tcRefs τ sig :=
  ⟨StableHlo.nullary_bufs_sub .., StableHlo.binary_bufs_sub ..⟩
theorem cond0_fresh : (cond0 : List (HloOp τ sig (Elt F))).Forall fun op => op.fresh = ∅ := StableHlo.forall_fresh_of_map rfl
abbrev cond0_W : List (Ref sig .tc) := [main_while0c_c_8, main_while0c_v14]
theorem cond0_writes : (cond0 : List (HloOp τ sig (Elt F))).Forall fun op => op.writes ⊆ (cond0_W.map (Proc.devRef (τ := τ) .tc)).toFinset :=
  StableHlo.forall_writes_sub_of_map rfl

/-- Time loop 0's body, stretch by stretch. -/
abbrev body0 : List (List (HloOp τ sig (Elt F))) := [slice0, step0, put0, carry0]
theorem body0_plain : StableHlo.Plain (body0 (F := F)) :=
  .cons slice0_sub (hf := List.forall_iff_forall_mem.mp slice0_fresh) (.cons step0_sub (hf := List.forall_iff_forall_mem.mp step0_fresh)
    (.cons put0_sub (hf := List.forall_iff_forall_mem.mp put0_fresh) (.cons carry0_sub (hf := List.forall_iff_forall_mem.mp carry0_fresh) .nil)))
/-- The printed body of time loop 0 is these stretches in order. -/
theorem body0_chain : main_while0_body (F := F) = (Pipeline.chain
  [ StableHlo.seq slice0, StableHlo.seq step0, StableHlo.seq put0, StableHlo.seq carry0 ] :
    Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

/-- Time loop 1, body: the current step's products cut out. -/
abbrev slice1 : List (HloOp τ sig (Elt F)) :=
  [ StableHlo.TRef.nullary (.of main_while1b_call2_c : StableHlo.TRef sig ⟨S_, .i32⟩) (constantI S_ 32 0#32),
    StableHlo.TRef.nullary (.of main_while1b_call2_c_0 : StableHlo.TRef sig ⟨S_, .i32⟩) (constantI S_ 32 0#32),
    StableHlo.TRef.unaryIndexed (.of main_v12_0 : StableHlo.TRef sig ⟨S300x32x512, .f32⟩) ![(.of main_v12_1 : StableHlo.TRef sig ⟨S_, .i32⟩), (.of main_while1b_call2_c : StableHlo.TRef sig ⟨S_, .i32⟩), (.of main_while1b_call2_c_0 : StableHlo.TRef sig ⟨S_, .i32⟩)] (.of main_while1b_call2_v0 : StableHlo.TRef sig ⟨S1x32x512, .f32⟩) (fun x i => Host.dynamicSlice S1x32x512 x (fun k => (i k (Shape.Idx.first h_S_)).toInt) sliceFits_S300x32x512_S1x32x512),
    StableHlo.TRef.reshape (.of main_while1b_call2_v0 : StableHlo.TRef sig ⟨S1x32x512, .f32⟩) (.of main_while1b_v14 : StableHlo.TRef sig ⟨S32x512, .f32⟩) (rfl : (.f32 : EltTy) = .f32) shapeCasts_S1x32x512_S32x512 ]
theorem slice1_sub : (slice1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem slice1_fresh : (slice1 : List (HloOp τ sig (Elt F))).Forall fun op => op.fresh = ∅ := StableHlo.forall_fresh_of_map rfl
abbrev slice1_W : List (Ref sig .tc) := [main_while1b_call2_c, main_while1b_call2_c_0, main_while1b_call2_v0, main_while1b_v14]
theorem slice1_writes : (slice1 : List (HloOp τ sig (Elt F))).Forall fun op => op.writes ⊆ (slice1_W.map (Proc.devRef (τ := τ) .tc)).toFinset :=
  StableHlo.forall_writes_sub_of_map rfl

/-- Time loop 1, body: one step of the neurons. -/
abbrev step1 : List (HloOp τ sig (Elt F)) :=
  [ StableHlo.nullary main_while1b_cst_8 (constant S_ .f32 0x3F67A36D#32),
    StableHlo.unary main_while1b_cst_8 main_while1b_v15 (broadcastInDim S32x512 ![] bcast_S_S32x512 : (⟨S_, .f32⟩ : BufTy).Contents (Elt F) → (⟨S32x512, .f32⟩ : BufTy).Contents (Elt F)),
    StableHlo.binary main_while1b_v15 main_v12_2 main_while1b_v16 (mulf : (⟨S32x512, .f32⟩ : BufTy).Contents (Elt F) → (⟨S32x512, .f32⟩ : BufTy).Contents (Elt F) → (⟨S32x512, .f32⟩ : BufTy).Contents (Elt F)),
    StableHlo.binary main_while1b_v16 main_while1b_v14 main_while1b_v17 (addf : (⟨S32x512, .f32⟩ : BufTy).Contents (Elt F) → (⟨S32x512, .f32⟩ : BufTy).Contents (Elt F) → (⟨S32x512, .f32⟩ : BufTy).Contents (Elt F)),
    StableHlo.binary main_while1b_v17 main_v12_3 main_while1b_v18 (addf : (⟨S32x512, .f32⟩ : BufTy).Contents (Elt F) → (⟨S32x512, .f32⟩ : BufTy).Contents (Elt F) → (⟨S32x512, .f32⟩ : BufTy).Contents (Elt F)),
    StableHlo.nullary main_while1b_cst_9 (constant S_ .f32 0x41200000#32),
    StableHlo.unary main_while1b_cst_9 main_while1b_v19 (broadcastInDim S32x512 ![] bcast_S_S32x512 : (⟨S_, .f32⟩ : BufTy).Contents (Elt F) → (⟨S32x512, .f32⟩ : BufTy).Contents (Elt F)),
    StableHlo.binary main_while1b_v18 main_while1b_v19 main_while1b_v20 (subf : (⟨S32x512, .f32⟩ : BufTy).Contents (Elt F) → (⟨S32x512, .f32⟩ : BufTy).Contents (Elt F) → (⟨S32x512, .f32⟩ : BufTy).Contents (Elt F)),
    StableHlo.nullary main_while1b_cst_10 (constant S_ .f32 0x3F800000#32),
    StableHlo.unary main_while1b_cst_10 main_while1b_v21 (broadcastInDim S32x512 ![] bcast_S_S32x512 : (⟨S_, .f32⟩ : BufTy).Contents (Elt F) → (⟨S32x512, .f32⟩ : BufTy).Contents (Elt F)),
    StableHlo.binary main_while1b_v20 main_while1b_v21 main_while1b_v22 (Host.divf : (⟨S32x512, .f32⟩ : BufTy).Contents (Elt F) → (⟨S32x512, .f32⟩ : BufTy).Contents (Elt F) → (⟨S32x512, .f32⟩ : BufTy).Contents (Elt F)),
    StableHlo.unary main_while1b_v22 main_while1b_v23 (Host.negf : (⟨S32x512, .f32⟩ : BufTy).Contents (Elt F) → (⟨S32x512, .f32⟩ : BufTy).Contents (Elt F)),
    StableHlo.unary main_while1b_v23 main_while1b_v24 (Host.exp : (⟨S32x512, .f32⟩ : BufTy).Contents (Elt F) → (⟨S32x512, .f32⟩ : BufTy).Contents (Elt F)),
    StableHlo.nullary main_while1b_cst_11 (constant S_ .f32 0x3F800000#32),
    StableHlo.unary main_while1b_cst_11 main_while1b_v25 (broadcastInDim S32x512 ![] bcast_S_S32x512 : (⟨S_, .f32⟩ : BufTy).Contents (Elt F) → (⟨S32x512, .f32⟩ : BufTy).Contents (Elt F)),
    StableHlo.binary main_while1b_v25 main_while1b_v24 main_while1b_v26 (addf : (⟨S32x512, .f32⟩ : BufTy).Contents (Elt F) → (⟨S32x512, .f32⟩ : BufTy).Contents (Elt F) → (⟨S32x512, .f32⟩ : BufTy).Contents (Elt F)),
    StableHlo.nullary main_while1b_cst_12 (constant S_ .f32 0x3F800000#32),
    StableHlo.unary main_while1b_cst_12 main_while1b_v27 (broadcastInDim S32x512 ![] bcast_S_S32x512 : (⟨S_, .f32⟩ : BufTy).Contents (Elt F) → (⟨S32x512, .f32⟩ : BufTy).Contents (Elt F)),
    StableHlo.binary main_while1b_v27 main_while1b_v26 main_while1b_v28 (Host.divf : (⟨S32x512, .f32⟩ : BufTy).Contents (Elt F) → (⟨S32x512, .f32⟩ : BufTy).Contents (Elt F) → (⟨S32x512, .f32⟩ : BufTy).Contents (Elt F)),
    StableHlo.nullary main_while1b_cst_13 (constant S_ .f32 0x00000000#32),
    StableHlo.unary main_while1b_cst_13 main_while1b_v29 (broadcastInDim S32x512 ![] bcast_S_S32x512 : (⟨S_, .f32⟩ : BufTy).Contents (Elt F) → (⟨S32x512, .f32⟩ : BufTy).Contents (Elt F)),
    StableHlo.binary main_while1b_v20 main_while1b_v29 main_while1b_v30 (cmpf .oge : (⟨S32x512, .f32⟩ : BufTy).Contents (Elt F) → (⟨S32x512, .f32⟩ : BufTy).Contents (Elt F) → (⟨S32x512, .i1⟩ : BufTy).Contents (Elt F)),
    StableHlo.unary main_while1b_v30 main_while1b_v31 (uitofp .f32 : (⟨S32x512, .i1⟩ : BufTy).Contents (Elt F) → (⟨S32x512, .f32⟩ : BufTy).Contents (Elt F)),
    StableHlo.binary main_while1b_v31 main_while1b_v28 main_while1b_v32 (subf : (⟨S32x512, .f32⟩ : BufTy).Contents (Elt F) → (⟨S32x512, .f32⟩ : BufTy).Contents (Elt F) → (⟨S32x512, .f32⟩ : BufTy).Contents (Elt F)),
    StableHlo.binary main_while1b_v32 main_while1b_v28 main_while1b_v33 (addf : (⟨S32x512, .f32⟩ : BufTy).Contents (Elt F) → (⟨S32x512, .f32⟩ : BufTy).Contents (Elt F) → (⟨S32x512, .f32⟩ : BufTy).Contents (Elt F)),
    StableHlo.nullary main_while1b_cst_14 (constant S_ .f32 0x3F1B4598#32),
    StableHlo.unary main_while1b_cst_14 main_while1b_v34 (broadcastInDim S32x512 ![] bcast_S_S32x512 : (⟨S_, .f32⟩ : BufTy).Contents (Elt F) → (⟨S32x512, .f32⟩ : BufTy).Contents (Elt F)),
    StableHlo.binary main_while1b_v34 main_v12_3 main_while1b_v35 (mulf : (⟨S32x512, .f32⟩ : BufTy).Contents (Elt F) → (⟨S32x512, .f32⟩ : BufTy).Contents (Elt F) → (⟨S32x512, .f32⟩ : BufTy).Contents (Elt F)),
    StableHlo.nullary main_while1b_cst_15 (constant S_ .f32 0x41A00000#32),
    StableHlo.unary main_while1b_cst_15 main_while1b_v36 (broadcastInDim S32x512 ![] bcast_S_S32x512 : (⟨S_, .f32⟩ : BufTy).Contents (Elt F) → (⟨S32x512, .f32⟩ : BufTy).Contents (Elt F)),
    StableHlo.binary main_while1b_v36 main_while1b_v33 main_while1b_v37 (mulf : (⟨S32x512, .f32⟩ : BufTy).Contents (Elt F) → (⟨S32x512, .f32⟩ : BufTy).Contents (Elt F) → (⟨S32x512, .f32⟩ : BufTy).Contents (Elt F)),
    StableHlo.binary main_while1b_v35 main_while1b_v37 main_while1b_v38 (subf : (⟨S32x512, .f32⟩ : BufTy).Contents (Elt F) → (⟨S32x512, .f32⟩ : BufTy).Contents (Elt F) → (⟨S32x512, .f32⟩ : BufTy).Contents (Elt F)) ]
theorem step1_sub : (step1 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem step1_fresh : (step1 : List (HloOp τ sig (Elt F))).Forall fun op => op.fresh = ∅ := StableHlo.forall_fresh_of_map rfl
abbrev step1_W : List (Ref sig .tc) := [main_while1b_cst_8, main_while1b_v15, main_while1b_v16, main_while1b_v17, main_while1b_v18, main_while1b_cst_9, main_while1b_v19, main_while1b_v20, main_while1b_cst_10, main_while1b_v21, main_while1b_v22, main_while1b_v23, main_while1b_v24, main_while1b_cst_11, main_while1b_v25, main_while1b_v26, main_while1b_cst_12, main_while1b_v27, main_while1b_v28, main_while1b_cst_13, main_while1b_v29, main_while1b_v30, main_while1b_v31, main_while1b_v32, main_while1b_v33, main_while1b_cst_14, main_while1b_v34, main_while1b_v35, main_while1b_cst_15, main_while1b_v36, main_while1b_v37, main_while1b_v38]
theorem step1_writes : (step1 : List (HloOp τ sig (Elt F))).Forall fun op => op.writes ⊆ (step1_W.map (Proc.devRef (τ := τ) .tc)).toFinset :=
  StableHlo.forall_writes_sub_of_map rfl

/-- Time loop 1, body: the step's spikes put at their place. -/
abbrev put1 : List (HloOp τ sig (Elt F)) :=
  [ StableHlo.TRef.unary (.of main_while1b_v33 : StableHlo.TRef sig ⟨S32x512, .f32⟩) (.of main_while1b_call3_v0 : StableHlo.TRef sig ⟨S1x32x512, .f32⟩) (broadcastInDim S1x32x512 ![1, 2] bcast_S32x512_S1x32x512_1_2),
    StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.binaryIndexed (.of main_v12_4 : StableHlo.TRef sig ⟨S300x32x512, .f32⟩) (.of main_while1b_call3_v0 : StableHlo.TRef sig ⟨S1x32x512, .f32⟩) ![(.of main_v12_1 : StableHlo.TRef sig ⟨S_, .i32⟩), (.of main_while1b_call3_c : StableHlo.TRef sig ⟨S_, .i32⟩), (.of main_while1b_call3_c_0 : StableHlo.TRef sig ⟨S_, .i32⟩)] (.of main_while1b_v39 : StableHlo.TRef sig ⟨S300x32x512, .f32⟩) (fun x u i => Host.dynamicUpdateSlice x u (fun k => (i k (Shape.Idx.first h_S_)).toInt) updateFits_S300x32x512_S1x32x512) ]
theorem put1_sub : (put1 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem put1_fresh : (put1 : List (HloOp τ sig (Elt F))).Forall fun op => op.fresh = ∅ := StableHlo.forall_fresh_of_map rfl
abbrev put1_W : List (Ref sig .tc) := [main_while1b_call3_v0, main_while1b_call3_c, main_while1b_call3_c_0, main_while1b_v39]
theorem put1_writes : (put1 : List (HloOp τ sig (Elt F))).Forall fun op => op.writes ⊆ (put1_W.map (Proc.devRef (τ := τ) .tc)).toFinset :=
  StableHlo.forall_writes_sub_of_map rfl

/-- Time loop 1, body: the step number advanced and the carried values handed on. -/
abbrev carry1 : List (HloOp τ sig (Elt F)) :=
  [ StableHlo.nullary main_while1b_c_16 (constantI S_ 32 1#32),
    StableHlo.binary main_v12_1 main_while1b_c_16 main_while1b_v40 (addi : (⟨S_, .i32⟩ : BufTy).Contents (Elt F) → (⟨S_, .i32⟩ : BufTy).Contents (Elt F) → (⟨S_, .i32⟩ : BufTy).Contents (Elt F)),
    StableHlo.unary main_while1b_v40 main_v12_1 id,
    StableHlo.unary main_while1b_v17 main_v12_2 id,
    StableHlo.unary main_while1b_v38 main_v12_3 id,
    StableHlo.unary main_while1b_v39 main_v12_4 id ]
theorem carry1_sub : (carry1 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem carry1_fresh : (carry1 : List (HloOp τ sig (Elt F))).Forall fun op => op.fresh = ∅ := StableHlo.forall_fresh_of_map rfl
abbrev carry1_W : List (Ref sig .tc) := [main_while1b_c_16, main_while1b_v40, main_v12_1, main_v12_2, main_v12_3, main_v12_4]
theorem carry1_writes : (carry1 : List (HloOp τ sig (Elt F))).Forall fun op => op.writes ⊆ (carry1_W.map (Proc.devRef (τ := τ) .tc)).toFinset :=
  StableHlo.forall_writes_sub_of_map rfl

/-- Time loop 1, condition: the step number compared with 300. -/
abbrev cond1 : List (HloOp τ sig (Elt F)) :=
  [ StableHlo.nullary main_while1c_c_8 (constantI S_ 32 300#32),
    StableHlo.binary main_v12_1 main_while1c_c_8 main_while1c_v14 (cmpi .slt) ]
theorem cond1_sub : (cond1 : List (HloOp τ sig (Elt F))).Forall fun op => op.bufs ⊆ StableHlo.tcRefs τ sig :=
  ⟨StableHlo.nullary_bufs_sub .., StableHlo.binary_bufs_sub ..⟩
theorem cond1_fresh : (cond1 : List (HloOp τ sig (Elt F))).Forall fun op => op.fresh = ∅ := StableHlo.forall_fresh_of_map rfl
abbrev cond1_W : List (Ref sig .tc) := [main_while1c_c_8, main_while1c_v14]
theorem cond1_writes : (cond1 : List (HloOp τ sig (Elt F))).Forall fun op => op.writes ⊆ (cond1_W.map (Proc.devRef (τ := τ) .tc)).toFinset :=
  StableHlo.forall_writes_sub_of_map rfl

/-- Time loop 1's body, stretch by stretch. -/
abbrev body1 : List (List (HloOp τ sig (Elt F))) := [slice1, step1, put1, carry1]
theorem body1_plain : StableHlo.Plain (body1 (F := F)) :=
  .cons slice1_sub (hf := List.forall_iff_forall_mem.mp slice1_fresh) (.cons step1_sub (hf := List.forall_iff_forall_mem.mp step1_fresh)
    (.cons put1_sub (hf := List.forall_iff_forall_mem.mp put1_fresh) (.cons carry1_sub (hf := List.forall_iff_forall_mem.mp carry1_fresh) .nil)))
/-- The printed body of time loop 1 is these stretches in order. -/
theorem body1_chain : main_while1_body (F := F) = (Pipeline.chain
  [ StableHlo.seq slice1, StableHlo.seq step1, StableHlo.seq put1, StableHlo.seq carry1 ] :
    Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

/-- The printed main line is its three stretches round the two loops. -/
theorem main_chain (c : Dev nD) : main (F := F) c = (Pipeline.chain
  [ StableHlo.seq before0, HostLoop.enter 0, StableHlo.seq between, HostLoop.enter 1, StableHlo.seq after1 ] :
    Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

end Cert.ReferenceIdeal.Ops

end
-- ==== Proof.Reference.Loop1.lean ====
/- The reference's first time loop: its step counter, what its condition tests, and that no trip writes an argument. -/
module

public import proofs.«01_k».proof.Proof.Reference.Ops
public import Idealize.ShloMosaic.Lib.StableHlo.RunRead
public import Idealize.ShloMosaic.Lib.Scf.ExitTest
public import Idealize.ShloMosaic.Lib.Scf.Counter

@[expose] public section

noncomputable section

namespace Cert.ReferenceIdeal.Loop1

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal Cert.ReferenceIdeal.Gen Cert.ReferenceIdeal.Ops

variable {F : FTy → Type} [FloatOps F]

variable (W : Dev nD → Valuation τ sig (Elt F))

/-- Every buffer's contents before the `k`-th run of the condition, counted from 0, from the contents `W` at the loop's entry. -/
abbrev atK (k : ℕ) (c : Dev nD) : Valuation τ sig (Elt F) := atTrip cond0 body0 W k c

/-- A buffer that neither the condition nor any stretch of the body writes keeps its contents through every trip. -/
theorem atK_keep (b : Ref sig .tc) (hc : b ∉ cond0_W) (h1 : b ∉ slice0_W) (h2 : b ∉ step0_W) (h3 : b ∉ put0_W) (h4 : b ∉ carry0_W)
    (c : Dev nD) : ∀ k, atK W k c (Proc.devRef .tc b) = W c (Proc.devRef .tc b)
  | 0 => rfl
  | k + 1 => by
    rw [show atK W (k + 1) c = afterL body0 (after cond0 (atK W k c)) from rfl]
    simp only [afterL_cons, afterL_nil]
    rw [after_of_writes_sub carry0 _ carry0_writes h4, after_of_writes_sub put0 _ put0_writes h3,
      after_of_writes_sub step0 _ step0_writes h2, after_of_writes_sub slice0 _ slice0_writes h1,
      after_of_writes_sub cond0 _ cond0_writes hc]
    exact atK_keep b hc h1 h2 h3 h4 c k

/-- The body's last stretch leaves the counter one step on. -/
theorem ctr_step (X : Valuation τ sig (Elt F)) :
    after carry0 X (Proc.devRef .tc main_v5_1) = addi (X (Proc.devRef .tc main_v5_1)) (constantI S_ 32 1#32) := by
  after_results
  rfl

/-- Before the `k`-th condition the counter is `k`, when it is 0 at the entry. -/
theorem atK_ctr (hW : ∀ c, W c (Proc.devRef .tc main_v5_1) = fun _ => (0#32 : BitVec 32)) (c : Dev nD) :
    ∀ k, atK W k c (Proc.devRef .tc main_v5_1) = fun _ => Scf.iv 0#32 1#32 k
  | 0 => by rw [show atK W 0 c = W c from rfl, hW, Scf.iv_zero]
  | k + 1 => by
    rw [show atK W (k + 1) c = afterL body0 (after cond0 (atK W k c)) from rfl]
    simp only [afterL_cons, afterL_nil]
    rw [ctr_step, after_of_writes_sub put0 _ put0_writes (by decide +kernel), after_of_writes_sub step0 _ step0_writes (by decide +kernel),
      after_of_writes_sub slice0 _ slice0_writes (by decide +kernel), after_of_writes_sub cond0 _ cond0_writes (by decide +kernel),
      atK_ctr hW c k, Scf.iv_succ]
    rfl

-- `iapply` of a rule stated for any thread at the TensorCore thread unifies only when unification may unfold
-- plain definitions in a metavariable's type
set_option backward.isDefEq.respectTransparency.types false in
/-- The condition is true before each of the 300 trips and false after the last, whatever rides along (`Rc`). -/
theorem cond_spec (hW : ∀ c, W c (Proc.devRef .tc main_v5_1) = fun _ => (0#32 : BitVec 32))
    (Rc : Dev nD → sProp (MT nD τ sig Unit (Elt F) ℕ (Option PUnit) ℕ)) :
    LoopCond (pcfgs (F := F)) defs₀ Variants.none loops Rc (main_while0_cond (F := F)) cond0 body0 W 300 := by
  intro k hk c bd
  have hctr := atK_ctr W hW c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK W k c) main_v5_1 HostLoop.idx0)
        (HloOp.result _ (atK W k c) main_while0c_c_8 HostLoop.idx0) = 1#1) (k < 300)
    rw [nullary_result_ne _ _ _ _ (by decide), nullary_result, hctr]
    exact Scf.cmpi_slt_iv_ub_iff (lb := 0#32) (ub := 300#32) (st := 1#32) (by decide) (show k ≤ Scf.trips 0#32 300#32 1#32 from hk)
  isplitl [Hb]; · iexact Hb
  isplitl [Hh]; · rw [after_cons, after_cons, after_nil]; iexact Hh
  iexact HR

end Cert.ReferenceIdeal.Loop1

end
-- ==== Proof.Reference.Loop2.lean ====
/- The reference's second time loop: its step counter, what its condition tests, and that no trip writes an argument. -/
module

public import proofs.«01_k».proof.Proof.Reference.Ops
public import Idealize.ShloMosaic.Lib.StableHlo.RunRead
public import Idealize.ShloMosaic.Lib.Scf.ExitTest
public import Idealize.ShloMosaic.Lib.Scf.Counter

@[expose] public section

noncomputable section

namespace Cert.ReferenceIdeal.Loop2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal Cert.ReferenceIdeal.Gen Cert.ReferenceIdeal.Ops

variable {F : FTy → Type} [FloatOps F]

variable (W : Dev nD → Valuation τ sig (Elt F))

/-- Every buffer's contents before the `k`-th run of the condition, counted from 0, from the contents `W` at the loop's entry. -/
abbrev atK (k : ℕ) (c : Dev nD) : Valuation τ sig (Elt F) := atTrip cond1 body1 W k c

/-- A buffer that neither the condition nor any stretch of the body writes keeps its contents through every trip. -/
theorem atK_keep (b : Ref sig .tc) (hc : b ∉ cond1_W) (h1 : b ∉ slice1_W) (h2 : b ∉ step1_W) (h3 : b ∉ put1_W) (h4 : b ∉ carry1_W)
    (c : Dev nD) : ∀ k, atK W k c (Proc.devRef .tc b) = W c (Proc.devRef .tc b)
  | 0 => rfl
  | k + 1 => by
    rw [show atK W (k + 1) c = afterL body1 (after cond1 (atK W k c)) from rfl]
    simp only [afterL_cons, afterL_nil]
    rw [after_of_writes_sub carry1 _ carry1_writes h4, after_of_writes_sub put1 _ put1_writes h3,
      after_of_writes_sub step1 _ step1_writes h2, after_of_writes_sub slice1 _ slice1_writes h1,
      after_of_writes_sub cond1 _ cond1_writes hc]
    exact atK_keep b hc h1 h2 h3 h4 c k

/-- The body's last stretch leaves the counter one step on. -/
theorem ctr_step (X : Valuation τ sig (Elt F)) :
    after carry1 X (Proc.devRef .tc main_v12_1) = addi (X (Proc.devRef .tc main_v12_1)) (constantI S_ 32 1#32) := by
  after_results
  rfl

/-- Before the `k`-th condition the counter is `k`, when it is 0 at the entry. -/
theorem atK_ctr (hW : ∀ c, W c (Proc.devRef .tc main_v12_1) = fun _ => (0#32 : BitVec 32)) (c : Dev nD) :
    ∀ k, atK W k c (Proc.devRef .tc main_v12_1) = fun _ => Scf.iv 0#32 1#32 k
  | 0 => by rw [show atK W 0 c = W c from rfl, hW, Scf.iv_zero]
  | k + 1 => by
    rw [show atK W (k + 1) c = afterL body1 (after cond1 (atK W k c)) from rfl]
    simp only [afterL_cons, afterL_nil]
    rw [ctr_step, after_of_writes_sub put1 _ put1_writes (by decide +kernel), after_of_writes_sub step1 _ step1_writes (by decide +kernel),
      after_of_writes_sub slice1 _ slice1_writes (by decide +kernel), after_of_writes_sub cond1 _ cond1_writes (by decide +kernel),
      atK_ctr hW c k, Scf.iv_succ]
    rfl

-- `iapply` of a rule stated for any thread at the TensorCore thread unifies only when unification may unfold
-- plain definitions in a metavariable's type
set_option backward.isDefEq.respectTransparency.types false in
/-- The condition is true before each of the 300 trips and false after the last, whatever rides along (`Rc`). -/
theorem cond_spec (hW : ∀ c, W c (Proc.devRef .tc main_v12_1) = fun _ => (0#32 : BitVec 32))
    (Rc : Dev nD → sProp (MT nD τ sig Unit (Elt F) ℕ (Option PUnit) ℕ)) :
    LoopCond (pcfgs (F := F)) defs₀ Variants.none loops Rc (main_while1_cond (F := F)) cond1 body1 W 300 := by
  intro k hk c bd
  have hctr := atK_ctr W hW c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK W k c) main_v12_1 HostLoop.idx0)
        (HloOp.result _ (atK W k c) main_while1c_c_8 HostLoop.idx0) = 1#1) (k < 300)
    rw [nullary_result_ne _ _ _ _ (by decide), nullary_result, hctr]
    exact Scf.cmpi_slt_iv_ub_iff (lb := 0#32) (ub := 300#32) (st := 1#32) (by decide) (show k ≤ Scf.trips 0#32 300#32 1#32 from hk)
  isplitl [Hb]; · iexact Hb
  isplitl [Hh]; · rw [after_cons, after_cons, after_nil]; iexact Hh
  iexact HR

end Cert.ReferenceIdeal.Loop2

end
-- ==== Proof.Reference.Run.lean ====
/- The reference's run: from any memory, every execution ends with the result array at what the three stretches and the two time
   loops leave in it, the arguments as they were, and every counter at zero. -/
module

public import proofs.«01_k».proof.Proof.Reference.Loop1
public import proofs.«01_k».proof.Proof.Reference.Loop2
public import Idealize.ShloMosaic.Lib.Pipeline.RegionsLoop
public import Idealize.ShloMosaic.Lib.Quiescent

@[expose] public section

noncomputable section

namespace Cert.ReferenceIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (ucRefs sub_ucRefs)
open Cert.ReferenceIdeal Cert.ReferenceIdeal.Gen Cert.ReferenceIdeal.Ops

variable {F : FTy → Type} [FloatOps F]

local notation "𝕄" => MT nD τ sig Unit (Elt F) ℕ (Option PUnit) ℕ

variable (m : (ℓ : Loc nD τ sig) → Buf (Elt F) ℓ) (ρ : Dev nD → PrngReg)

/-- The contents the first loop is entered with. -/
abbrev W1 (c : Dev nD) : Valuation τ sig (Elt F) := after before0 (launchContents m c)
/-- The contents the first loop leaves. -/
abbrev W2 (c : Dev nD) : Valuation τ sig (Elt F) := after cond0 (atTrip cond0 body0 (W1 m) 300 c)
/-- The contents the second loop is entered with. -/
abbrev W3 (c : Dev nD) : Valuation τ sig (Elt F) := after between (W2 m c)
/-- The contents the second loop leaves. -/
abbrev W4 (c : Dev nD) : Valuation τ sig (Elt F) := after cond1 (atTrip cond1 body1 (W3 m) 300 c)
/-- The contents at the program's end. -/
abbrev W5 (c : Dev nD) : Valuation τ sig (Elt F) := after after1 (W4 m c)

/-- The first loop's counter starts at 0. -/
theorem W1_ctr (c : Dev nD) : W1 m c (Proc.devRef .tc main_v5_1) = fun _ => (0#32 : BitVec 32) := by
  after_results
  rfl

/-- The stretch between the loops sets the second loop's counter to 0, whatever it starts from. -/
theorem between_ctr (X : Valuation τ sig (Elt F)) : after between X (Proc.devRef .tc main_v12_1) = fun _ => (0#32 : BitVec 32) := by
  after_reads_simp
  rfl

/-- The second loop's counter starts at 0. -/
theorem W3_ctr (c : Dev nD) : W3 m c (Proc.devRef .tc main_v12_1) = fun _ => (0#32 : BitVec 32) := between_ctr _

/-! ## No stretch writes an argument -/

/-- The argument arrays. -/
abbrev argRefs : List (Ref sig .tc) := [main_arg0, main_arg1, main_arg2]

theorem before0_args : ∀ a ∈ argRefs, a ∉ before0_W := ListAll.forall_mem_of_all_decide (by decide +kernel)
theorem between_args : ∀ a ∈ argRefs, a ∉ between_W := ListAll.forall_mem_of_all_decide (by decide +kernel)
theorem after1_args : ∀ a ∈ argRefs, a ∉ after1_W := ListAll.forall_mem_of_all_decide (by decide +kernel)
theorem cond0_args : ∀ a ∈ argRefs, a ∉ cond0_W := ListAll.forall_mem_of_all_decide (by decide +kernel)
theorem slice0_args : ∀ a ∈ argRefs, a ∉ slice0_W := ListAll.forall_mem_of_all_decide (by decide +kernel)
theorem step0_args : ∀ a ∈ argRefs, a ∉ step0_W := ListAll.forall_mem_of_all_decide (by decide +kernel)
theorem put0_args : ∀ a ∈ argRefs, a ∉ put0_W := ListAll.forall_mem_of_all_decide (by decide +kernel)
theorem carry0_args : ∀ a ∈ argRefs, a ∉ carry0_W := ListAll.forall_mem_of_all_decide (by decide +kernel)
theorem cond1_args : ∀ a ∈ argRefs, a ∉ cond1_W := ListAll.forall_mem_of_all_decide (by decide +kernel)
theorem slice1_args : ∀ a ∈ argRefs, a ∉ slice1_W := ListAll.forall_mem_of_all_decide (by decide +kernel)
theorem step1_args : ∀ a ∈ argRefs, a ∉ step1_W := ListAll.forall_mem_of_all_decide (by decide +kernel)
theorem put1_args : ∀ a ∈ argRefs, a ∉ put1_W := ListAll.forall_mem_of_all_decide (by decide +kernel)
theorem carry1_args : ∀ a ∈ argRefs, a ∉ carry1_W := ListAll.forall_mem_of_all_decide (by decide +kernel)

/-- An argument is as launched at the first loop's entry. -/
theorem W1_args (c : Dev nD) (a : Ref sig .tc) (h : a ∈ argRefs) : W1 m c (Proc.devRef .tc a) = m ((c.tc : Thread nD τ).loc a) :=
  after_of_writes_sub before0 _ before0_writes (before0_args a h)

/-- An argument is as launched after the first loop. -/
theorem W2_args (c : Dev nD) (a : Ref sig .tc) (h : a ∈ argRefs) : W2 m c (Proc.devRef .tc a) = m ((c.tc : Thread nD τ).loc a) :=
  (after_of_writes_sub cond0 _ cond0_writes (cond0_args a h)).trans
    ((Loop1.atK_keep (W1 m) a (cond0_args a h) (slice0_args a h) (step0_args a h) (put0_args a h) (carry0_args a h) c 300).trans (W1_args m c a h))

/-- An argument is as launched at the second loop's entry. -/
theorem W3_args (c : Dev nD) (a : Ref sig .tc) (h : a ∈ argRefs) : W3 m c (Proc.devRef .tc a) = m ((c.tc : Thread nD τ).loc a) :=
  (after_of_writes_sub between _ between_writes (between_args a h)).trans (W2_args m c a h)

/-- An argument is as launched at the end. -/
theorem W5_args (c : Dev nD) (a : Ref sig .tc) (h : a ∈ argRefs) : W5 m c (Proc.devRef .tc a) = m ((c.tc : Thread nD τ).loc a) :=
  (after_of_writes_sub after1 _ after1_writes (after1_args a h)).trans
    ((after_of_writes_sub cond1 _ cond1_writes (cond1_args a h)).trans
      ((Loop2.atK_keep (W3 m) a (cond1_args a h) (slice1_args a h) (step1_args a h) (put1_args a h) (carry1_args a h) c 300).trans (W3_args m c a h)))

/-! ## The five segments -/

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

/-- What a device carries beside its buffers: it owes nothing. -/
abbrev Rw (c : Dev nD) : sProp 𝕄 := iprop(∃ W, owes (c : Thread nD τ) (0 : CellTallies nD τ sig Unit) W)

/-- The stretch before the first loop, the loop, the stretch between, the second loop, the stretch after. -/
def segs : List (Pipeline.CSeg (pcfgs (F := F)) adm defs₀ Variants.none L lv loops tk) :=
  segsOf _ _ _ _ _ _ _ _ Rw [before0] (.cons before0_sub (hf := List.forall_iff_forall_mem.mp before0_fresh) .nil) (launchContents m)
    ++ loopSeg _ _ _ _ _ _ _ _ 0 main_while0_cond main_while0_body rfl cond0 body0 body0_plain body0_chain 300 (W1 m) Rw (Loop1.cond_spec _ (W1_ctr m) _)
    :: (segsOf _ _ _ _ _ _ _ _ Rw [between] (.cons between_sub (hf := List.forall_iff_forall_mem.mp between_fresh) .nil) (W2 m)
      ++ loopSeg _ _ _ _ _ _ _ _ 1 main_while1_cond main_while1_body rfl cond1 body1 body1_plain body1_chain 300 (W3 m) Rw (Loop2.cond_spec _ (W3_ctr m) _)
      :: segsOf _ _ _ _ _ _ _ _ Rw [after1] (.cons after1_sub (hf := List.forall_iff_forall_mem.mp after1_fresh) .nil) (W4 m))

/-- Each segment starts where the one before it ends. -/
theorem segs_chains : Pipeline.CSeg.Chains (fun c => iprop(held (c : Thread nD τ) (ucRefs τ sig) (launchContents m c) ∗ Rw c)) (segs m)
    (fun c => iprop(iprop(held (c : Thread nD τ) (ucRefs τ sig) (W5 m c)) ∗ ∃ W, owes (c : Thread nD τ) (0 : CellTallies nD τ sig Unit) W)) := by
  unfold segs
  exact Pipeline.CSeg.Chains.append (segsOf_chains _ _ _ _ _ _ _ _ Rw [before0] _ _) ⟨fun _ => .rfl,
    Pipeline.CSeg.Chains.append (segsOf_chains _ _ _ _ _ _ _ _ Rw [between] _ _) ⟨fun _ => .rfl,
      segsOf_chains _ _ _ _ _ _ _ _ Rw [after1] _ _⟩⟩

/-- The segments' programs in order are the main line. -/
theorem segs_prog (c : Dev nD) : main (F := F) c = Pipeline.chain ((segs m).map Pipeline.CSeg.prog) := by
  rw [main_chain]
  rfl

/-- Every buffer that holds a value of the program ends at the contents `W5`. -/
theorem run_all : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = W5 m c (Proc.devRef .tc b)) :=
  Pipeline.θ_run_regions_loop_kit (Ix := Unit) (Name := ℕ) (U := Option PUnit) (Lvl := ℕ) (J := Fin 0) (P := Fin 0) (Val := Elt F)
    (pcfgs (F := F)) adm (fun k => k.1.elim0) defs₀ Variants.none L lv loops tk m ρ main (segs m)
    (fun c Q => by
      rw [segs_prog m c]
      show wp _ _ _ (Pipeline.chain ((segs m).map Pipeline.CSeg.prog)) Q ⊢ _
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (W5 m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W5 m c b)
    (hfin := fun c s' => by
      unfold held
      iintro ⟨Hh, HSI⟩
      ihave Hr := (pointsTo_read_all (ucRefs τ sig) (fun b => ((c : Dev nD), b)) (fun b => W5 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- The reference's run: the result at `W5`, the arguments as launched, the counters at zero. -/
theorem run : θ_run (defs (F := F)) (onTc (τ := τ) (main (F := F))) ⟨m, fun _ => 0, ρ⟩
    (fun r => (∀ c : Dev nD, r.2.mem ((c.tc : Thread nD τ).loc main_v13) = W5 m c (Proc.devRef .tc main_v13)
      ∧ ∀ a ∈ argRefs, r.2.mem ((c.tc : Thread nD τ).loc a) = m ((c.tc : Thread nD τ).loc a)) ∧ r.2.sem = fun _ => 0) :=
  (θ_run _ _ _).mono (fun r h => ⟨fun c => ⟨h c main_v13 rfl, fun a ha => by
      refine (h c a ?_).trans (W5_args m c a ha)
      revert a
      exact ListAll.forall_mem_of_all_decide (by decide +kernel)⟩,
    sem_eq_zero_of_no_sems (by decide) r.2⟩) (run_all m ρ)

end Cert.ReferenceIdeal.Run

end
-- ==== Proof.Frames.lean ====
/-
  The frames of the kernel as written, of its ideal form and of the reference's. The first two programs are the same text, one over machine words and one
  over the extended reals, and the run is proved for any values, so one run serves both.
-/
module

public import proofs.«01_k».proof.Proof.Run
public import proofs.«01_k».proof.Proof.Reference.Run
public import proofs.«01_k».proof.Defs
public import proofs.«01_k».proof.Proof.Gen.Kernel

@[expose] public section

namespace Cert.Frames

open Idealize.ShloMosaic Idealize.ShloMosaic.TcCoe Idealize.ShloMosaic.Tactic Idealize.SL Idealize.SL.Sem

variable {F : FTy → Type} [FloatOps F]

/-- From any memory the arguments end unchanged and every counter at zero, for any values. -/
theorem frame (m : (ℓ : Loc KernelIdeal.nD KernelIdeal.τ KernelIdeal.sig) → Buf (Elt F) ℓ) (g : Dev KernelIdeal.nD → PrngReg) :
    θ_run (KernelIdeal.defs (F := F)) (onTc (τ := KernelIdeal.τ) (KernelIdeal.main (F := F))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0) :=
  (θ_run KernelIdeal.defs _ _).mono
    (fun r h => ⟨fun c => ⟨(h.1 c).2 _ (by decide), (h.1 c).2 _ (by decide), (h.1 c).2 _ (by decide)⟩, h.2⟩) (KernelIdeal.Run.run m g)

/-- The frame claim of the kernel as written is the frame above, at machine words: the two programs are one text. -/
theorem same : (∀ (m : (ℓ : Loc KernelIdeal.nD KernelIdeal.τ KernelIdeal.sig) → Buf (Elt Bits) ℓ) (g : Dev KernelIdeal.nD → PrngReg),
    θ_run (KernelIdeal.defs (F := Bits)) (onTc (τ := KernelIdeal.τ) (KernelIdeal.main (F := Bits))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0)) =
  (∀ (m : (ℓ : Loc Kernel.nD Kernel.τ Kernel.sig) → Buf (Elt Bits) ℓ) (g : Dev Kernel.nD → PrngReg),
    θ_run (Kernel.defs (F := Bits)) (onTc (τ := Kernel.τ) (Kernel.main (F := Bits))) ⟨m, fun _ => 0, g⟩ (fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2))
      ∧ r.2.sem = fun _ => 0)) := by
  sl_kernel_rfl

/-- The frame of the kernel as written. -/
theorem kernel : Cert.quiescent_Kernel := fun m g _ => Eq.mp same frame m g

/-- The frame of its ideal form. -/
theorem kernelIdeal : Cert.quiescent_KernelIdeal := fun m g _ => frame m g

/-- The frame of the reference's ideal form. -/
theorem referenceIdeal : Cert.quiescent_ReferenceIdeal := fun m g _ =>
  (θ_run ReferenceIdeal.defs _ _).mono
    (fun r h => ⟨fun c => ⟨(h.1 c).2 _ (by decide), (h.1 c).2 _ (by decide), (h.1 c).2 _ (by decide)⟩, h.2⟩) (ReferenceIdeal.Run.run (F := Ideal) m g)

end Cert.Frames
-- ==== Proof.Spec.lean ====
/-
  What the two programs compute over the extended reals: one spiking layer as a function of its spikes, time first, and of its
  weights, and the network of two such layers as a function of the three arguments.
-/
module

public import proofs.«01_k».proof.Proof.Step
public import Idealize.ShloMosaic.PureOps.Ideal.Laws

@[expose] public section

noncomputable section

namespace Cert.Slayer

open Idealize.ShloMosaic Idealize.ShloMosaic.ValueIdx
open scoped BigOperators

variable {K B I O : ℕ}

/-- A current of zero at every neuron. -/
abbrev rest (B O : ℕ) : FVec Ideal ⟨2, ![B, O]⟩ .f32 := broadcast _ (Scalar.ofBits .f32 0x00000000#32)

/-- The products of step `k`: each output neuron's weights with the spikes of that step. Steps count modulo their number. -/
def zOf (hK : 0 < K) (X : (⟨3, ![K, B, I]⟩ : Shape).Idx → EReal) (w : (⟨2, ![O, I]⟩ : Shape).Idx → EReal) (k : ℕ) :
    FVec Ideal ⟨2, ![B, O]⟩ .f32 :=
  fun y => ∑ i : Fin I, w (ix2 (y 1) i) * X (ix3 ⟨k % K, Nat.mod_lt _ hK⟩ (y 0) i)

/-- A layer: the spikes of every step, from currents at rest. -/
def layer (hK : 0 < K) (X : (⟨3, ![K, B, I]⟩ : Shape).Idx → EReal) (w : (⟨2, ![O, I]⟩ : Shape).Idx → EReal) :
    FVec Ideal ⟨3, ![K, B, O]⟩ .f32 :=
  stack (spikeAt (zOf hK X w) (rest B O) (rest B O))

/-- An array kept time last, read time first. -/
def timeFirst {α : Type} {n : ℕ} (x : (⟨3, ![B, n, K]⟩ : Shape).Idx → α) : (⟨3, ![K, B, n]⟩ : Shape).Idx → α :=
  fun y => x (ix3 (y 1) (y 2) (y 0))

/-- An array kept time first, read time last. -/
def timeLast {α : Type} {n : ℕ} (x : (⟨3, ![K, B, n]⟩ : Shape).Idx → α) : (⟨3, ![B, n, K]⟩ : Shape).Idx → α :=
  fun y => x (ix3 (y 2) (y 0) (y 1))

/-- A transpose that brings the last axis to the front is `timeFirst`. -/
theorem transpose_timeFirst {α : Type} {n : ℕ} (x : (⟨3, ![B, n, K]⟩ : Shape).Idx → α)
    (h : (⟨3, ![B, n, K]⟩ : Shape).Transposes [2, 0, 1] ⟨3, ![K, B, n]⟩) :
    transpose (⟨3, ![K, B, n]⟩ : Shape) [2, 0, 1] x h = timeFirst x :=
  funext fun y => transpose_apply _ x h _ _ fun c => match c with | ⟨0, _⟩ => rfl | ⟨1, _⟩ => rfl | ⟨2, _⟩ => rfl

/-- A transpose that brings the first axis to the end is `timeLast`. -/
theorem transpose_timeLast {α : Type} {n : ℕ} (x : (⟨3, ![K, B, n]⟩ : Shape).Idx → α)
    (h : (⟨3, ![K, B, n]⟩ : Shape).Transposes [1, 2, 0] ⟨3, ![B, n, K]⟩) :
    transpose (⟨3, ![B, n, K]⟩ : Shape) [1, 2, 0] x h = timeLast x :=
  funext fun y => transpose_apply _ x h _ _ fun c => match c with | ⟨0, _⟩ => rfl | ⟨1, _⟩ => rfl | ⟨2, _⟩ => rfl

/-- Time brought to the end and back to the front is where it was. -/
theorem timeFirst_timeLast {α : Type} {n : ℕ} (x : (⟨3, ![K, B, n]⟩ : Shape).Idx → α) : timeFirst (timeLast x) = x :=
  funext fun y => congrArg x (eq_ix3 y).symm

/-- The network: the first layer on the input read time first, the second on the first's spikes, the result time last. -/
def net {H : ℕ} (hK : 0 < K) (x : (⟨3, ![B, I, K]⟩ : Shape).Idx → EReal) (w₁ : (⟨2, ![H, I]⟩ : Shape).Idx → EReal)
    (w₂ : (⟨2, ![O, H]⟩ : Shape).Idx → EReal) : FVec Ideal ⟨3, ![B, O, K]⟩ .f32 :=
  timeLast (layer hK (layer hK (timeFirst x) w₁) w₂)

end Cert.Slayer

end
-- ==== Proof.Layer1.Value.lean ====
/- The first layer's launch over the extended reals: the array of spikes it leaves is `Slayer.layer` of the arrays it finds. -/
module

public import proofs.«01_k».proof.Proof.Layer1.Region
public import proofs.«01_k».proof.Proof.Spec
public import Idealize.ShloMosaic.Lib.Pipeline.ValueKit
public import Idealize.ShloMosaic.Lib.Pointwise.Contract

@[expose] public section

set_option maxRecDepth 16384

noncomputable section

namespace Cert.KernelIdeal.Layer1

open Idealize.ShloMosaic hiding ix2 ix3
open Idealize.ShloMosaic.TcCoe Idealize.ShloMosaic.ValueIdx Idealize.SL.Sem
open Idealize.ShloMosaic.Pipeline (Dat)
open Cert.KernelIdeal Cert.KernelIdeal.Gen Cert.Slayer
open scoped BigOperators

/-- The blocks' places: point `t` of the input and of the result is block `t` along time; the weights are one block. -/
theorem index0 : ∀ t : Fin cfg0.N, win0_0.index t = ![t.val, 0, 0] := (by decide +kernel : ∀ t : Fin grid0.N, win0_0.index t = ![t.val, 0, 0])
theorem index1 : ∀ t : Fin cfg0.N, win0_1.index t = ![0, 0] := (by decide +kernel : ∀ t : Fin grid0.N, win0_1.index t = ![0, 0])
theorem index2 : ∀ t : Fin cfg0.N, win0_2.index t = ![t.val, 0, 0] := (by decide +kernel : ∀ t : Fin grid0.N, win0_2.index t = ![t.val, 0, 0])

section Any

variable {F : FTy → Type} [FloatOps F]
variable (V : (c : Dev nD) → (b : Ref sig .tc) → Buf (Elt F) ((c : Thread nD τ).loc b)) (c : Dev nD)

/-- After the launch the result array holds every step's spikes. -/
theorem arr_spikes :
    (dat V c).arrAt 2 cfg0.N = (stack (K := 300) fun k => fptosi 8 (spikeAt (z V c) zeros zeros k) : Vec F S300x32x1024 .i8) := by
  refine (dat V c).arrAt_eq_of_covers 2 _ (by decide +kernel) fun t hf y => ?_
  rw [after2]
  blk_simp
  have h0 : ((win0_2.blk t).view.emb y 0).val = 25 * t.val + (y 0).val := by
    blk_simp
    rw [index2]
    show t.val * 25 + (y 0).val = _
    omega
  have h1 : (win0_2.blk t).view.emb y 1 = y 1 := by
    apply Fin.ext
    blk_simp
    rw [index2]
    show 0 * 32 + (y 1).val = _
    omega
  have h2 : (win0_2.blk t).view.emb y 2 = y 2 := by
    apply Fin.ext
    blk_simp
    rw [index2]
    show 0 * 1024 + (y 2).val = _
    omega
  unfold out stack
  rw [h0, h1, h2]

/-- Point `t`'s input block is steps `25 t` to `25 t + 24` of the input array. -/
theorem iblk0 (t : Fin cfg0.N) (y : S25x32x2048.Idx) :
    (iblk V c 0 t : S25x32x2048.Idx → BitVec 8) y
      = (V c main_v2 : S300x32x2048.Idx → BitVec 8) (ix3 ⟨25 * t.val + (y 0).val, by
          have : t.val < 12 := t.isLt; have : (y 0).val < 25 := (y 0).isLt; omega⟩ (y 1) (y 2)) := by
  unfold iblk View.read
  refine congrArg (V c main_v2 : S300x32x2048.Idx → BitVec 8) (funext fun a => Fin.ext ?_)
  blk_simp
  rw [index0]
  match a with
  | ⟨0, _⟩ => show t.val * 25 + (y 0).val = 25 * t.val + (y 0).val; omega
  | ⟨1, _⟩ => show 0 * 32 + (y 1).val = (y 1).val; omega
  | ⟨2, _⟩ => show 0 * 2048 + (y 2).val = (y 2).val; omega

/-- Every point's weights are the whole array of weights. -/
theorem iblk1 (t : Fin cfg0.N) : (iblk V c 1 t : S2048x1024.Idx → F .bf16) = V c main_v4 := by
  funext y
  unfold iblk View.read
  refine congrArg (V c main_v4 : S2048x1024.Idx → F .bf16) (funext fun a => Fin.ext ?_)
  blk_simp
  rw [index1]
  match a with
  | ⟨0, _⟩ => show 0 * 2048 + (y 0).val = (y 0).val; omega
  | ⟨1, _⟩ => show 0 * 1024 + (y 1).val = (y 1).val; omega

end Any

section Values

/-- A point's products over the extended reals: the sum over the input neurons of spike times weight. -/
theorem prods_apply (x0 : Vec Ideal S25x32x2048 .i8) (x1 : Vec Ideal S2048x1024 .bf16) (j : ℕ) (hj : j < 25) (y : S32x1024.Idx) :
    prods x0 x1 j y = ∑ i : Fin 2048, (((x0 (ix3 (⟨j, hj⟩ : Fin 25) (y 0) i)).toInt : ℝ) : EReal) * x1 (ix2 i (y 1)) := by
  have hb : (y 0).val < 32 := (y 0).isLt
  have hr : 32 * j + (y 0).val < 800 := by omega
  have e : prods x0 x1 j y = k0_pay6 x0 x1 (ix2 (⟨32 * j + (y 0).val, hr⟩ : Fin 800) (y 1)) := by
    unfold prods rowsAt
    refine congrArg (k0_pay6 x0 x1) (funext fun a => Fin.ext ?_)
    match a with
    | ⟨0, _⟩ => exact Nat.mod_eq_of_lt hr
    | ⟨1, _⟩ => rfl
  rw [e]
  unfold k0_pay6
  simp only [shapeCast_self]
  refine (Ideal.matmul_apply₁_of dot_S800x2048_S2048x1024_S800x1024_1_0_0_1_n_n rfl (K := 2048) rfl _ x1 _ _
    (fun i => ix2 (⟨32 * j + (y 0).val, hr⟩ : Fin 800) i) (fun i => ix2 i (y 1)) (fun i => ?_) (fun i => ?_)).trans ?_
  · funext a
    match a with
    | ⟨0, _⟩ => rfl
    | ⟨1, _⟩ => rfl
  · funext a
    match a with
    | ⟨0, _⟩ => rfl
    | ⟨1, _⟩ => rfl
  · rw [show constant (F := Ideal) S800x1024 .f32 0x00000000#32 (ix2 (⟨32 * j + (y 0).val, hr⟩ : Fin 800) (y 1)) = 0 from Ideal.ofBits_zero_f32,
      zero_add]
    refine Finset.sum_congr rfl fun i _ => congrArg (· * x1 (ix2 i (y 1))) ?_
    refine congrArg (fun b : BitVec 8 => (((b.toInt : ℝ)) : EReal)) (shapeCast_apply x0 shapeCasts_S25x32x2048_S800x2048 _ _ ?_)
    rw [Shape.rowMajor_val_three, Shape.rowMajor_val_two]
    show (j * 32 + (y 0).val) * 2048 + i.val = (32 * j + (y 0).val) * 2048 + i.val
    omega

variable (V : (c : Dev nD) → (b : Ref sig .tc) → Buf (Elt Ideal) ((c : Thread nD τ).loc b)) (c : Dev nD)

/-- The launch's input spikes as extended reals. -/
abbrev xIn : S300x32x2048.Idx → EReal := fun y => ((((V c main_v2 : S300x32x2048.Idx → BitVec 8) y).toInt : ℝ) : EReal)

/-- The launch's weights, each output neuron's in a row. -/
abbrev wIn : (⟨2, ![1024, 2048]⟩ : Shape).Idx → EReal := fun y => (V c main_v4 : S2048x1024.Idx → EReal) (ix2 (y 1) (y 0))

/-- The products of step `k` are those of the layer. -/
theorem z_eq (k : ℕ) (hk : k < 300) : z V c k = zOf (K := 300) (by decide) (xIn V c) (wIn V c) k := by
  have hN : k / 25 < cfg0.N := by rw [show cfg0.N = 12 from N_0]; omega
  have hm : k % 25 < 25 := Nat.mod_lt _ (by decide)
  funext y
  unfold z
  rw [dif_pos hN, prods_apply _ _ _ hm y]
  unfold zOf
  refine Finset.sum_congr rfl fun i _ => ?_
  rw [mul_comm, iblk1]
  refine congrArg (fun e : EReal => wIn V c (ix2 (y 1) i) * e) ?_
  refine congrArg (fun b : BitVec 8 => (((b.toInt : ℝ)) : EReal)) ((iblk0 V c ⟨k / 25, hN⟩ _).trans ?_)
  refine congrArg (V c main_v2 : S300x32x2048.Idx → BitVec 8) (funext fun a => Fin.ext ?_)
  match a with
  | ⟨0, _⟩ => show 25 * (k / 25) + k % 25 = k % 300; omega
  | ⟨1, _⟩ => rfl
  | ⟨2, _⟩ => rfl

/-- After the launch the result array holds the layer's spikes, as eight-bit integers. -/
theorem arr_layer : (dat V c).arrAt 2 cfg0.N
    = (fptosi 8 (layer (K := 300) (by decide) (xIn V c) (wIn V c)) : Vec Ideal S300x32x1024 .i8) := by
  rw [arr_spikes]
  exact stack_congr fun j hj => congrArg (fptosi 8) (spikeAt_congr _ _ fun k hk => z_eq V c k (by omega))

end Values

end Cert.KernelIdeal.Layer1
end
-- ==== Proof.Layer2.Value.lean ====
/- The second layer's launch over the extended reals: the array of spikes it leaves is `Slayer.layer` of the arrays it finds. -/
module

public import proofs.«01_k».proof.Proof.Layer2.Region
public import proofs.«01_k».proof.Proof.Spec
public import Idealize.ShloMosaic.Lib.Pipeline.ValueKit
public import Idealize.ShloMosaic.Lib.Pointwise.Contract

@[expose] public section

set_option maxRecDepth 16384

noncomputable section

namespace Cert.KernelIdeal.Layer2

open Idealize.ShloMosaic hiding ix2 ix3
open Idealize.ShloMosaic.TcCoe Idealize.ShloMosaic.ValueIdx Idealize.SL.Sem
open Idealize.ShloMosaic.Pipeline (Dat)
open Cert.KernelIdeal Cert.KernelIdeal.Gen Cert.Slayer
open scoped BigOperators

/-- The blocks' places: point `t` of the input and of the result is block `t` along time; the weights are one block. -/
theorem index0 : ∀ t : Fin cfg1.N, win1_0.index t = ![t.val, 0, 0] := (by decide +kernel : ∀ t : Fin grid1.N, win1_0.index t = ![t.val, 0, 0])
theorem index1 : ∀ t : Fin cfg1.N, win1_1.index t = ![0, 0] := (by decide +kernel : ∀ t : Fin grid1.N, win1_1.index t = ![0, 0])
theorem index2 : ∀ t : Fin cfg1.N, win1_2.index t = ![t.val, 0, 0] := (by decide +kernel : ∀ t : Fin grid1.N, win1_2.index t = ![t.val, 0, 0])

section Any

variable {F : FTy → Type} [FloatOps F]
variable (V : (c : Dev nD) → (b : Ref sig .tc) → Buf (Elt F) ((c : Thread nD τ).loc b)) (c : Dev nD)

/-- After the launch the result array holds every step's spikes. -/
theorem arr_spikes :
    (dat V c).arrAt 2 cfg1.N = (stack (K := 300) fun k => fptosi 8 (spikeAt (z V c) zeros zeros k) : Vec F S300x32x512 .i8) := by
  refine (dat V c).arrAt_eq_of_covers 2 _ (by decide +kernel) fun t hf y => ?_
  rw [after2]
  blk_simp
  have h0 : ((win1_2.blk t).view.emb y 0).val = 25 * t.val + (y 0).val := by
    blk_simp
    rw [index2]
    show t.val * 25 + (y 0).val = _
    omega
  have h1 : (win1_2.blk t).view.emb y 1 = y 1 := by
    apply Fin.ext
    blk_simp
    rw [index2]
    show 0 * 32 + (y 1).val = _
    omega
  have h2 : (win1_2.blk t).view.emb y 2 = y 2 := by
    apply Fin.ext
    blk_simp
    rw [index2]
    show 0 * 512 + (y 2).val = _
    omega
  unfold out stack
  rw [h0, h1, h2]

/-- Point `t`'s input block is steps `25 t` to `25 t + 24` of the input array. -/
theorem iblk0 (t : Fin cfg1.N) (y : S25x32x1024.Idx) :
    (iblk V c 0 t : S25x32x1024.Idx → BitVec 8) y
      = (V c main_v5 : S300x32x1024.Idx → BitVec 8) (ix3 ⟨25 * t.val + (y 0).val, by
          have : t.val < 12 := t.isLt; have : (y 0).val < 25 := (y 0).isLt; omega⟩ (y 1) (y 2)) := by
  unfold iblk View.read
  refine congrArg (V c main_v5 : S300x32x1024.Idx → BitVec 8) (funext fun a => Fin.ext ?_)
  blk_simp
  rw [index0]
  match a with
  | ⟨0, _⟩ => show t.val * 25 + (y 0).val = 25 * t.val + (y 0).val; omega
  | ⟨1, _⟩ => show 0 * 32 + (y 1).val = (y 1).val; omega
  | ⟨2, _⟩ => show 0 * 1024 + (y 2).val = (y 2).val; omega

/-- Every point's weights are the whole array of weights. -/
theorem iblk1 (t : Fin cfg1.N) : (iblk V c 1 t : S1024x512.Idx → F .bf16) = V c main_v7 := by
  funext y
  unfold iblk View.read
  refine congrArg (V c main_v7 : S1024x512.Idx → F .bf16) (funext fun a => Fin.ext ?_)
  blk_simp
  rw [index1]
  match a with
  | ⟨0, _⟩ => show 0 * 1024 + (y 0).val = (y 0).val; omega
  | ⟨1, _⟩ => show 0 * 512 + (y 1).val = (y 1).val; omega

end Any

section Values

/-- A point's products over the extended reals: the sum over the input neurons of spike times weight. -/
theorem prods_apply (x0 : Vec Ideal S25x32x1024 .i8) (x1 : Vec Ideal S1024x512 .bf16) (j : ℕ) (hj : j < 25) (y : S32x512.Idx) :
    prods x0 x1 j y = ∑ i : Fin 1024, (((x0 (ix3 (⟨j, hj⟩ : Fin 25) (y 0) i)).toInt : ℝ) : EReal) * x1 (ix2 i (y 1)) := by
  have hb : (y 0).val < 32 := (y 0).isLt
  have hr : 32 * j + (y 0).val < 800 := by omega
  have e : prods x0 x1 j y = k1_pay6 x0 x1 (ix2 (⟨32 * j + (y 0).val, hr⟩ : Fin 800) (y 1)) := by
    unfold prods rowsAt
    refine congrArg (k1_pay6 x0 x1) (funext fun a => Fin.ext ?_)
    match a with
    | ⟨0, _⟩ => exact Nat.mod_eq_of_lt hr
    | ⟨1, _⟩ => rfl
  rw [e]
  unfold k1_pay6
  simp only [shapeCast_self]
  refine (Ideal.matmul_apply₁_of dot_S800x1024_S1024x512_S800x512_1_0_0_1_n_n rfl (K := 1024) rfl _ x1 _ _
    (fun i => ix2 (⟨32 * j + (y 0).val, hr⟩ : Fin 800) i) (fun i => ix2 i (y 1)) (fun i => ?_) (fun i => ?_)).trans ?_
  · funext a
    match a with
    | ⟨0, _⟩ => rfl
    | ⟨1, _⟩ => rfl
  · funext a
    match a with
    | ⟨0, _⟩ => rfl
    | ⟨1, _⟩ => rfl
  · rw [show constant (F := Ideal) S800x512 .f32 0x00000000#32 (ix2 (⟨32 * j + (y 0).val, hr⟩ : Fin 800) (y 1)) = 0 from Ideal.ofBits_zero_f32,
      zero_add]
    refine Finset.sum_congr rfl fun i _ => congrArg (· * x1 (ix2 i (y 1))) ?_
    refine congrArg (fun b : BitVec 8 => (((b.toInt : ℝ)) : EReal)) (shapeCast_apply x0 shapeCasts_S25x32x1024_S800x1024 _ _ ?_)
    rw [Shape.rowMajor_val_three, Shape.rowMajor_val_two]
    show (j * 32 + (y 0).val) * 1024 + i.val = (32 * j + (y 0).val) * 1024 + i.val
    omega

variable (V : (c : Dev nD) → (b : Ref sig .tc) → Buf (Elt Ideal) ((c : Thread nD τ).loc b)) (c : Dev nD)

/-- The launch's input spikes as extended reals. -/
abbrev xIn : S300x32x1024.Idx → EReal := fun y => ((((V c main_v5 : S300x32x1024.Idx → BitVec 8) y).toInt : ℝ) : EReal)

/-- The launch's weights, each output neuron's in a row. -/
abbrev wIn : (⟨2, ![512, 1024]⟩ : Shape).Idx → EReal := fun y => (V c main_v7 : S1024x512.Idx → EReal) (ix2 (y 1) (y 0))

/-- The products of step `k` are those of the layer. -/
theorem z_eq (k : ℕ) (hk : k < 300) : z V c k = zOf (K := 300) (by decide) (xIn V c) (wIn V c) k := by
  have hN : k / 25 < cfg1.N := by rw [show cfg1.N = 12 from N_1]; omega
  have hm : k % 25 < 25 := Nat.mod_lt _ (by decide)
  funext y
  unfold z
  rw [dif_pos hN, prods_apply _ _ _ hm y]
  unfold zOf
  refine Finset.sum_congr rfl fun i _ => ?_
  rw [mul_comm, iblk1]
  refine congrArg (fun e : EReal => wIn V c (ix2 (y 1) i) * e) ?_
  refine congrArg (fun b : BitVec 8 => (((b.toInt : ℝ)) : EReal)) ((iblk0 V c ⟨k / 25, hN⟩ _).trans ?_)
  refine congrArg (V c main_v5 : S300x32x1024.Idx → BitVec 8) (funext fun a => Fin.ext ?_)
  match a with
  | ⟨0, _⟩ => show 25 * (k / 25) + k % 25 = k % 300; omega
  | ⟨1, _⟩ => rfl
  | ⟨2, _⟩ => rfl

/-- After the launch the result array holds the layer's spikes, as eight-bit integers. -/
theorem arr_layer : (dat V c).arrAt 2 cfg1.N
    = (fptosi 8 (layer (K := 300) (by decide) (xIn V c) (wIn V c)) : Vec Ideal S300x32x512 .i8) := by
  rw [arr_spikes]
  exact stack_congr fun j hj => congrArg (fptosi 8) (spikeAt_congr _ _ fun k hk => z_eq V c k (by omega))

end Values

end Cert.KernelIdeal.Layer2
end
-- ==== Proof.Reference.Step.lean ====
/-
  What one trip of the reference's time loop computes. The reference writes a step's spikes as `(hard − σ) + σ`, with `σ` the
  logistic function of the distance from the threshold. Over the extended reals `σ` is always a real number, so it cancels, and
  what is left is the spikes of `Step.lean`. The second half says what it means to cut step `k` out of an array of steps, and to
  put one more step into such an array.
-/
module

public import proofs.«01_k».proof.Proof.Step
public import Idealize.ShloMosaic.Lib.IdealHost
public import Idealize.ShloMosaic.Lib.WordCmp

@[expose] public section

noncomputable section

namespace Cert.Slayer

open Idealize.ShloMosaic Idealize.ShloMosaic.ValueIdx

variable {S : Shape}

/-- The new membrane current plus the refractory current, minus the threshold. -/
def hostV {F : FTy → Type} [FloatOps F] (z u r : FVec F S .f32) : FVec F S .f32 :=
  subf (addf (uNext z u) r) (broadcast S (Scalar.ofBits .f32 0x41200000#32))

/-- The logistic function of `hostV`, as the reference writes it. -/
def hostSigma {F : FTy → Type} [FloatOps F] (z u r : FVec F S .f32) : FVec F S .f32 :=
  Host.divf (broadcast S (Scalar.ofBits .f32 0x3F800000#32))
    (addf (broadcast S (Scalar.ofBits .f32 0x3F800000#32))
      (Host.exp (Host.negf (Host.divf (hostV z u r) (broadcast S (Scalar.ofBits .f32 0x3F800000#32))))))

/-- The spikes of a step, as the reference writes them. -/
def hostSpike {F : FTy → Type} [FloatOps F] (z u r : FVec F S .f32) : FVec F S .f32 :=
  addf (subf (uitofp .f32 (cmpf .oge (hostV z u r) (broadcast S (Scalar.ofBits .f32 0x00000000#32)))) (hostSigma z u r))
    (hostSigma z u r)

/-- The pattern of the threshold is the real number ten. -/
theorem ofBits_ten : Ideal.ofBits .f32 0x41200000#32 = ((10 : ℝ) : EReal) := by
  simp [Ideal.ofBits, Ideal.ieee, -EReal.coe_mul]; norm_num

/-- The logistic function of an extended real is a real number. -/
theorem logistic_real (v : EReal) : ∃ s : ℝ, Ideal.div 1 (1 + Ideal.exp (-(Ideal.div v 1))) = (s : EReal) := by
  have e1 : Ideal.div v 1 = v := by
    have := Ideal.div_coe one_ne_zero v
    simpa using this
  rw [e1]
  induction v with
  | bot =>
    refine ⟨0, ?_⟩
    rw [EReal.neg_bot, Ideal.exp_top, show (1 : EReal) + ⊤ = ⊤ from rfl, Ideal.div, if_neg (by simp)]
    simp
  | top =>
    refine ⟨1, ?_⟩
    rw [EReal.neg_top, Ideal.exp_bot, add_zero]
    have := Ideal.div_coe one_ne_zero (1 : EReal)
    simpa using this
  | coe x =>
    refine ⟨1 * (1 / (1 + Real.exp (-x))), ?_⟩
    rw [← EReal.coe_neg, Ideal.exp_coe, ← EReal.coe_one, ← EReal.coe_add, Ideal.div_coe (by positivity), ← EReal.coe_mul]

/-- An extended real minus ten is not negative exactly when it is ten or more. -/
theorem sub_ten_nonneg (x : EReal) : (0 ≤ x - ((10 : ℝ) : EReal)) ↔ (((10 : ℝ) : EReal) ≤ x) := by
  induction x with
  | bot => simp
  | top => simp
  | coe x => rw [← EReal.coe_sub, EReal.coe_nonneg, EReal.coe_le_coe_iff, sub_nonneg]

/-- A real number subtracted and added again cancels from a real number. -/
theorem sub_add_real (a s : ℝ) : ((a : EReal) - (s : EReal)) + (s : EReal) = (a : EReal) := by
  rw [← EReal.coe_sub, ← EReal.coe_add, sub_add_cancel]

/-- The comparison of a spike as a bit, and what it means. -/
theorem spike_apply (z u r : FVec Ideal S .f32) (i : S.Idx) :
    spike z u r i = (((if ((10 : ℝ) : EReal) ≤ addf (uNext z u) r i then 1 else 0 : ℝ)) : EReal) := by
  have h : spike z u r i = ((((Ideal.cmp .oge (addf (uNext z u) r i) (Ideal.ofBits .f32 0x41200000#32)).setWidth 32).toInt : ℝ) : EReal) := rfl
  rw [h, ofBits_ten, Ideal.cmp]
  by_cases hc : ((10 : ℝ) : EReal) ≤ addf (uNext z u) r i
  · rw [if_pos hc, decide_eq_true hc, show ((BitVec.ofBool true).setWidth 32).toInt = 1 by decide]; norm_num
  · rw [if_neg hc, decide_eq_false hc, show ((BitVec.ofBool false).setWidth 32).toInt = 0 by decide]; norm_num

/-- Over the extended reals the reference's spikes are the spikes. -/
theorem hostSpike_eq (z u r : FVec Ideal S .f32) : hostSpike z u r = spike z u r := by
  funext i
  rw [spike_apply]
  have hv : hostV z u r i = addf (uNext z u) r i - ((10 : ℝ) : EReal) := by rw [← ofBits_ten]; rfl
  have hs : hostSigma z u r i = Ideal.div 1 (1 + Ideal.exp (-(Ideal.div (hostV z u r i) 1))) := by rw [← Ideal.ofBits_one_f32]; rfl
  have h : hostSpike z u r i
      = ((((Ideal.cmp .oge (hostV z u r i) (Ideal.ofBits .f32 0x00000000#32)).toNat : ℝ) : EReal) - hostSigma z u r i) + hostSigma z u r i := rfl
  obtain ⟨s, es⟩ := logistic_real (hostV z u r i)
  rw [h, hs, es, sub_add_real, Ideal.ofBits_zero_f32, Ideal.cmp, hv]
  by_cases hc : ((10 : ℝ) : EReal) ≤ addf (uNext z u) r i
  · rw [if_pos hc, decide_eq_true ((sub_ten_nonneg _).mpr hc)]; norm_num; rfl
  · rw [if_neg hc, decide_eq_false fun h => hc ((sub_ten_nonneg _).mp h)]; norm_num

/-! ## Steps kept in one array, time first -/

variable {α : Type} {K m n : ℕ}

/-- Step `k` of an array of steps, steps counted modulo their number. -/
def slab (hK : 0 < K) (Z : (⟨3, ![K, m, n]⟩ : Shape).Idx → α) (k : ℕ) : (⟨2, ![m, n]⟩ : Shape).Idx → α :=
  fun y => Z (ix3 ⟨k % K, Nat.mod_lt _ hK⟩ (y 0) (y 1))

/-- A cut of one step out of an array of steps, its leading axis dropped, is that step. -/
theorem slice_slab (hK : 0 < K) (Z : (⟨3, ![K, m, n]⟩ : Shape).Idx → α) (start : Fin 3 → Int)
    (h : (⟨3, ![K, m, n]⟩ : Shape).Slices (fun _ => 0) ⟨3, ![1, m, n]⟩) (h' : (⟨3, ![1, m, n]⟩ : Shape).ShapeCasts ⟨2, ![m, n]⟩)
    {k : ℕ} (hk : k < K) (e : ∀ a, start a = ((![k, 0, 0] : Fin 3 → ℕ) a : Int)) :
    shapeCast (⟨2, ![m, n]⟩ : Shape) (Host.dynamicSlice (s := ⟨3, ![K, m, n]⟩) (⟨3, ![1, m, n]⟩ : Shape) Z start h) h' = slab hK Z k := by
  have hs : (⟨3, ![K, m, n]⟩ : Shape).Slices (![k, 0, 0] : Fin 3 → ℕ) ⟨3, ![1, m, n]⟩ := ⟨rfl, fun a => match a with
    | ⟨0, _⟩ => (show k + 1 ≤ K by omega) | ⟨1, _⟩ => (show 0 + m ≤ m by omega) | ⟨2, _⟩ => (show 0 + n ≤ n by omega)⟩
  rw [WordCmp.dynamicSlice_eq_extract _ _ _ h _ hs e]
  funext y
  obtain ⟨i, j, rfl⟩ : ∃ (i : Fin m) (j : Fin n), y = ix2 i j := ⟨_, _, eq_ix2 y⟩
  rw [shapeCast_1ab_ab_apply]
  refine extractStridedSlice_apply _ Z hs _ _ fun a => match a with
    | ⟨0, _⟩ => ?_ | ⟨1, _⟩ => ?_ | ⟨2, _⟩ => ?_
  · show k % K = k + 0; rw [Nat.mod_eq_of_lt hk, Nat.add_zero]
  · show i.val = 0 + i.val; omega
  · show j.val = 0 + j.val; omega

/-- An array of steps whose first `k` steps are those of `f`, and whose later ones are still those of `d`. -/
def stackTo (f : ℕ → (⟨2, ![m, n]⟩ : Shape).Idx → α) (d : (⟨3, ![K, m, n]⟩ : Shape).Idx → α) (k : ℕ) : (⟨3, ![K, m, n]⟩ : Shape).Idx → α :=
  fun y => if (y 0).val < k then f (y 0).val (ix2 (y 1) (y 2)) else d y

/-- With no step done the array is as it began. -/
theorem stackTo_zero (f : ℕ → (⟨2, ![m, n]⟩ : Shape).Idx → α) (d : (⟨3, ![K, m, n]⟩ : Shape).Idx → α) : stackTo f d 0 = d :=
  funext fun _ => if_neg (Nat.not_lt_zero _)

/-- With every step done it is the stack of them. -/
theorem stackTo_all (f : ℕ → (⟨2, ![m, n]⟩ : Shape).Idx → α) (d : (⟨3, ![K, m, n]⟩ : Shape).Idx → α) : stackTo f d K = stack f :=
  funext fun y => if_pos (y 0).isLt

/-- Putting step `k` in its place does one step more. -/
theorem put_stackTo (f : ℕ → (⟨2, ![m, n]⟩ : Shape).Idx → α) (d : (⟨3, ![K, m, n]⟩ : Shape).Idx → α) (start : Fin 3 → Int)
    (h : (⟨3, ![K, m, n]⟩ : Shape).Slices (fun _ => 0) ⟨3, ![1, m, n]⟩)
    (hb : (⟨2, ![m, n]⟩ : Shape).BroadcastsInDim ⟨3, ![1, m, n]⟩ ![1, 2])
    {k : ℕ} (hk : k < K) (e : ∀ a, start a = ((![k, 0, 0] : Fin 3 → ℕ) a : Int)) :
    Host.dynamicUpdateSlice (s := ⟨3, ![K, m, n]⟩) (u := ⟨3, ![1, m, n]⟩) (stackTo f d k)
      (broadcastInDim (⟨3, ![1, m, n]⟩ : Shape) ![1, 2] hb (f k)) start h = stackTo f d (k + 1) := by
  have hs : (⟨3, ![K, m, n]⟩ : Shape).Slices (![k, 0, 0] : Fin 3 → ℕ) ⟨3, ![1, m, n]⟩ := ⟨rfl, fun a => match a with
    | ⟨0, _⟩ => (show k + 1 ≤ K by omega) | ⟨1, _⟩ => (show 0 + m ≤ m by omega) | ⟨2, _⟩ => (show 0 + n ≤ n by omega)⟩
  rw [WordCmp.dynamicUpdateSlice_eq_update _ _ _ h _ hs e]
  funext y
  unfold updateSlice
  split
  · rename_i hin
    have h0 : k ≤ (y 0).val ∧ (y 0).val < k + 1 := hin 0
    have hy : (y 0).val = k := by omega
    refine (broadcastInDim_apply _ hb (f k) _ (ix2 (y 1) (y 2)) fun a => match a with
      | ⟨0, _⟩ => ?_ | ⟨1, _⟩ => ?_).trans ?_
    · show (y 1).val = if m = 1 then 0 else (y 1).val - 0
      have := (y 1).isLt; have : (y 1).val < m := this
      split <;> omega
    · show (y 2).val = if n = 1 then 0 else (y 2).val - 0
      have := (y 2).isLt; have : (y 2).val < n := this
      split <;> omega
    · unfold stackTo; rw [if_pos (by omega), hy]
  · rename_i hin
    have hne : (y 0).val ≠ k := fun e0 => hin fun a => match a with
      | ⟨0, _⟩ => (show k ≤ (y 0).val ∧ (y 0).val < k + 1 by omega)
      | ⟨1, _⟩ => ⟨Nat.zero_le _, lt_of_lt_of_eq (y 1).isLt (Nat.zero_add m).symm⟩
      | ⟨2, _⟩ => ⟨Nat.zero_le _, lt_of_lt_of_eq (y 2).isLt (Nat.zero_add n).symm⟩
    unfold stackTo
    by_cases hlt : (y 0).val < k
    · rw [if_pos hlt, if_pos (by omega)]
    · rw [if_neg hlt, if_neg (by omega)]

end Cert.Slayer

end
-- ==== Proof.Value.lean ====
/-
  The kernel's result over the extended reals is the network `Slayer.net` of its three arguments, where every input spike is the
  value of an 8-bit integer. The kernel keeps spikes as such integers between its steps: the input's because the precondition
  says so, a layer's because they are 0 and 1.
-/
module

public import proofs.«01_k».proof.Proof.Run
public import proofs.«01_k».proof.Proof.Layer1.Value
public import proofs.«01_k».proof.Proof.Layer2.Value
public import proofs.«01_k».proof.Proof.Reference.Step
public import proofs.«01_k».proof.Pre_spikes_are_int8_values
public import Idealize.ShloMosaic.Lib.StableHlo.RunRead
public import Idealize.ShloMosaic.Lib.Pointwise.Select

@[expose] public section

set_option maxRecDepth 16384

noncomputable section

namespace Cert.KernelIdeal.Run

open Idealize.ShloMosaic hiding ix2 ix3 eq_ix2
open Idealize.ShloMosaic.TcCoe Idealize.ShloMosaic.ValueIdx Idealize.SL.Sem
open Idealize.ShloMosaic.StableHlo
open Cert.KernelIdeal Cert.Slayer
open Cert.KernelIdeal.Gen hiding adm segs V0 V1 V2 V3 V4 V5

/-! ## Spikes as 8-bit integers -/

/-- A spike survives its way through an 8-bit integer: it is 0 or 1. -/
theorem bit_int8 (p : Prop) [Decidable p] :
    (((Ideal.fptosi 8 (((if p then 1 else 0 : ℝ)) : EReal)).toInt : ℝ) : EReal) = (((if p then 1 else 0 : ℝ)) : EReal) := by
  by_cases h : p
  · rw [if_pos h, Ideal.fptosi, Ideal.toIntClamped_coe, if_pos zero_le_one, Int.floor_one,
      show (BitVec.ofInt 8 (max (-((2 ^ (8 - 1) : ℕ) : ℤ)) (min (((2 ^ (8 - 1) : ℕ) : ℤ) - 1) 1))).toInt = 1 by decide, Int.cast_one]
  · rw [if_neg h, Ideal.fptosi, Ideal.toIntClamped_coe, if_pos le_rfl, Int.floor_zero,
      show (BitVec.ofInt 8 (max (-((2 ^ (8 - 1) : ℕ) : ℤ)) (min (((2 ^ (8 - 1) : ℕ) : ℤ) - 1) 0))).toInt = 0 by decide, Int.cast_zero]

/-- Every spike of a layer survives it. -/
theorem layer_int8 {K B I O : ℕ} (hK : 0 < K) (X : (⟨3, ![K, B, I]⟩ : Shape).Idx → EReal) (w : (⟨2, ![O, I]⟩ : Shape).Idx → EReal)
    (y : (⟨3, ![K, B, O]⟩ : Shape).Idx) :
    ((((fptosi 8 (layer hK X w) : IVec ⟨3, ![K, B, O]⟩ 8) y).toInt : ℝ) : EReal) = layer hK X w y := by
  have h : layer hK X w y = _ := spike_apply (zOf hK X w (y 0).val) _ _ (ix2 (y 1) (y 2))
  show (((Ideal.fptosi 8 (layer hK X w y)).toInt : ℝ) : EReal) = _
  rw [h, bit_int8]

/-- Widening an 8-bit integer keeps its value. -/
theorem toInt_widened (b : BitVec 8) : (b.signExtend 32).toInt = b.toInt := BitVec.toInt_signExtend_of_le (by decide)

/-- Where the precondition holds, every input spike is the value of the 8-bit integer the kernel converts it to. -/
theorem input_int8 [Cert.Pre_spikes_are_int8_values.Facts] (x : FVec Ideal S32x2048x300 .f32) (w₁ : FVec Ideal S1024x2048 .f32)
    (w₂ : FVec Ideal S512x1024 .f32) (h : Cert.Pre_spikes_are_int8_values.fn (F := Ideal) x w₁ w₂ = fun _ => 1#1) (y : S32x2048x300.Idx) :
    ((((trunci 8 (fptosi 32 x) natLt_8_32 : IVec S32x2048x300 8) y).toInt : ℝ) : EReal) = x y := by
  have e : Ideal.cmp .oeq (((((trunci 8 (fptosi 32 x) natLt_8_32 : IVec S32x2048x300 8) y).signExtend 32).toInt : ℝ) : EReal) (x y) = 1 :=
    congrFun h y
  rw [toInt_widened] at e
  exact (Ideal.cmp_oeq_eq_one (x := _) (y := _)).mp e

/-! ## What the host stretches leave, from any contents -/

section Reads

variable (X : Valuation τ sig (Elt Ideal))

/-- The first layer's spikes: the input as 8-bit integers, time first. -/
theorem hostOps0_spikes : after hostOps0 X (Proc.devRef .tc main_v2)
    = transpose S300x32x2048 [2, 0, 1] (trunci 8 (fptosi (F := Ideal) (φ := .f32) 32 (X (Proc.devRef .tc main_arg0))) natLt_8_32)
        transposes_S32x2048x300_S300x32x2048_2_0_1 := by after_reads_simp

/-- The first layer's weights, transposed. -/
theorem hostOps0_weights : after hostOps0 X (Proc.devRef .tc main_v4)
    = truncf (F := Ideal) (φ := .f32) .bf16 (transpose S2048x1024 [1, 0] (X (Proc.devRef .tc main_arg1)) transposes_S1024x2048_S2048x1024_1_0)
        bitsLt_bf16_f32 := by after_reads_simp

/-- The second layer's weights, transposed. -/
theorem hostOps1_weights : after hostOps1 X (Proc.devRef .tc main_v7)
    = truncf (F := Ideal) (φ := .f32) .bf16 (transpose S1024x512 [1, 0] (X (Proc.devRef .tc main_arg2)) transposes_S512x1024_S1024x512_1_0)
        bitsLt_bf16_f32 := by after_reads_simp

/-- The result: the second layer's spikes time last, as floats. -/
theorem hostOps2_result : after hostOps2 X (Proc.devRef .tc main_v11)
    = sitofp (F := Ideal) .f32 (extsi 32 (transpose S32x512x300 [1, 2, 0] (X (Proc.devRef .tc main_v8) : IVec S300x32x512 8)
        transposes_S300x32x512_S32x512x300_1_2_0) natLt_8_32) := by after_reads_simp

end Reads

/-! ## The result -/

variable (m : (ℓ : Loc nD τ sig) → Buf (Elt Ideal) ℓ) (ρ : Dev nD → PrngReg) (c : Dev nD)

/-- The input spikes. -/
abbrev x : FVec Ideal S32x2048x300 .f32 := m ((c.tc : Thread nD τ).loc main_arg0)
/-- The first layer's weights. -/
abbrev w1 : FVec Ideal S1024x2048 .f32 := m ((c.tc : Thread nD τ).loc main_arg1)
/-- The second layer's weights. -/
abbrev w2 : FVec Ideal S512x1024 .f32 := m ((c.tc : Thread nD τ).loc main_arg2)

/-- The first launch finds the first layer's weights. -/
theorem wIn1 : Layer1.wIn (V1 m ρ) c = w1 m c := by
  funext y
  refine (congrFun (hostOps0_weights (W0 m ρ c)) (ix2 (y 1) (y 0))).trans ?_
  refine (transpose_ix2_apply (w1 m c) transposes_S1024x2048_S2048x1024_1_0 (y 1) (y 0)).trans ?_
  exact congrArg (w1 m c) (eq_ix2 y).symm

/-- Where the precondition holds, the first launch finds the input spikes, time first. -/
theorem xIn1 [Cert.Pre_spikes_are_int8_values.Facts]
    (h : Cert.Pre_spikes_are_int8_values.fn (F := Ideal) (x m c) (w1 m c) (w2 m c) = fun _ => 1#1) :
    Layer1.xIn (V1 m ρ) c = timeFirst (x m c) := by
  funext y
  refine Eq.trans ?_ (input_int8 _ _ _ h (ix3 (y 1) (y 2) (y 0)))
  refine congrArg (fun b : BitVec 8 => ((b.toInt : ℝ) : EReal)) ?_
  refine (congrFun (hostOps0_spikes (W0 m ρ c)) y).trans ?_
  rw [transpose_timeFirst]
  rfl

/-- The second launch finds the second layer's weights. -/
theorem wIn2 : Layer2.wIn (V3 m ρ) c = w2 m c := by
  funext y
  refine (congrFun (hostOps1_weights (W2 m ρ c)) (ix2 (y 1) (y 0))).trans ?_
  rw [W2_args m ρ c main_arg2 (by simp)]
  refine (transpose_ix2_apply (w2 m c) transposes_S512x1024_S1024x512_1_0 (y 1) (y 0)).trans ?_
  exact congrArg (w2 m c) (eq_ix2 y).symm

/-- The second launch finds the spikes the first leaves. -/
theorem xIn2 : Layer2.xIn (V3 m ρ) c = layer (K := 300) (by decide) (Layer1.xIn (V1 m ρ) c) (Layer1.wIn (V1 m ρ) c) := by
  funext y
  refine Eq.trans ?_ (layer_int8 _ _ _ y)
  refine congrArg (fun b : BitVec 8 => ((b.toInt : ℝ) : EReal)) ?_
  have e : W3 m ρ c (Proc.devRef .tc main_v5) = (Layer1.dat (V1 m ρ) c).arrAt 2 cfg0.N :=
    (W3_of m ρ c main_v5 (by decide)).trans (W2_arr m ρ c 2)
  exact congrFun (e.trans (Layer1.arr_layer (V1 m ρ) c)) y

/-- What the kernel leaves in its result array, where the precondition holds. -/
theorem result [Cert.Pre_spikes_are_int8_values.Facts]
    (h : Cert.Pre_spikes_are_int8_values.fn (F := Ideal) (x m c) (w1 m c) (w2 m c) = fun _ => 1#1) :
    W5 m ρ c (Proc.devRef .tc main_v11) = net (K := 300) (by decide) (x m c) (w1 m c) (w2 m c) := by
  have e : W4 m ρ c (Proc.devRef .tc main_v8) = _ := (W4_arr m ρ c 2).trans (Layer2.arr_layer (V3 m ρ) c)
  refine (hostOps2_result (W4 m ρ c)).trans ?_
  rw [e, transpose_timeLast]
  funext y
  refine (congrArg (fun n : ℤ => ((n : ℝ) : EReal)) (toInt_widened _)).trans ?_
  refine (layer_int8 _ _ _ (ix3 (y 2) (y 0) (y 1))).trans ?_
  rw [xIn2, wIn2, xIn1 m ρ c h, wIn1]
  rfl

end Cert.KernelIdeal.Run

end
-- ==== Proof.Reference.Values1.lean ====
/- The reference's first time loop, its values over the extended reals: before trip `k` the carried membrane and refractory currents
   are the recurrence's after `k` steps, and the array of spikes holds the first `k` steps' spikes. -/
module

public import proofs.«01_k».proof.Proof.Reference.Loop1
public import proofs.«01_k».proof.Proof.Reference.Step
public import Idealize.ShloMosaic.Lib.Pipeline.RegionsLoop

@[expose] public section

noncomputable section

namespace Cert.ReferenceIdeal.Loop1

open Idealize.ShloMosaic Idealize.ShloMosaic.TcCoe Idealize.SL.Sem
open Idealize.ShloMosaic.StableHlo
open Cert.ReferenceIdeal Cert.ReferenceIdeal.Gen Cert.ReferenceIdeal.Ops Cert.Slayer

section Reads

variable {F : FTy → Type} [FloatOps F] (X : Valuation τ sig (Elt F))

/-- The step's products are cut out of the array of all products at the counter. -/
theorem slice_read :
    after slice0 X (Proc.devRef .tc main_while0b_v14)
      = shapeCast S32x1024 (Host.dynamicSlice S1x32x1024 (X (Proc.devRef .tc main_v5_0))
          (fun k => ((![X (Proc.devRef .tc main_v5_1), constantI S_ 32 0#32, constantI S_ 32 0#32] : Fin 3 → IVec S_ 32) k
            (Shape.Idx.first h_S_)).toInt)
          sliceFits_S300x32x1024_S1x32x1024) shapeCasts_S1x32x1024_S32x1024 := by
  after_reads_simp [unaryIndexed_result_read, indexContents_tref_cons, indexContents_tref_empty]
  rfl

/-- The new membrane current. -/
theorem u_read :
    after step0 X (Proc.devRef .tc main_while0b_v17) = uNext (X (Proc.devRef .tc main_while0b_v14)) (X (Proc.devRef .tc main_v5_2)) := by
  after_reads_simp
  rfl

/-- The step's spikes. -/
theorem spike_read :
    after step0 X (Proc.devRef .tc main_while0b_v33)
      = hostSpike (X (Proc.devRef .tc main_while0b_v14)) (X (Proc.devRef .tc main_v5_2)) (X (Proc.devRef .tc main_v5_3)) := by
  after_reads_simp
  rfl

/-- The new refractory current. -/
theorem r_read :
    after step0 X (Proc.devRef .tc main_while0b_v38)
      = subf (mulf (broadcast S32x1024 (Scalar.ofBits .f32 0x3F1B4598#32)) (X (Proc.devRef .tc main_v5_3)))
          (mulf (broadcast S32x1024 (Scalar.ofBits .f32 0x41A00000#32))
            (hostSpike (X (Proc.devRef .tc main_while0b_v14)) (X (Proc.devRef .tc main_v5_2)) (X (Proc.devRef .tc main_v5_3)))) := by
  after_reads_simp
  rfl

/-- The step's spikes are put into the array of spikes at the counter. -/
theorem put_read :
    after put0 X (Proc.devRef .tc main_while0b_v39)
      = Host.dynamicUpdateSlice (X (Proc.devRef .tc main_v5_4))
          (broadcastInDim S1x32x1024 ![1, 2] bcast_S32x1024_S1x32x1024_1_2 (X (Proc.devRef .tc main_while0b_v33)))
          (fun k => ((![X (Proc.devRef .tc main_v5_1), constantI S_ 32 0#32, constantI S_ 32 0#32] : Fin 3 → IVec S_ 32) k
            (Shape.Idx.first h_S_)).toInt)
          updateFits_S300x32x1024_S1x32x1024 := by
  after_reads_simp [binaryIndexed_result_read, indexContents_tref_cons, indexContents_tref_empty]
  rfl

/-- The three values handed on to the next trip. -/
theorem carry_u : after carry0 X (Proc.devRef .tc main_v5_2) = X (Proc.devRef .tc main_while0b_v17) := by after_reads_simp; rfl
theorem carry_r : after carry0 X (Proc.devRef .tc main_v5_3) = X (Proc.devRef .tc main_while0b_v38) := by after_reads_simp; rfl
theorem carry_s : after carry0 X (Proc.devRef .tc main_v5_4) = X (Proc.devRef .tc main_while0b_v39) := by after_reads_simp; rfl

end Reads

section Trips

variable (W : Dev nD → Valuation τ sig (Elt Ideal)) (c : Dev nD)

/-- The products of step `k`, cut out of the array the loop is entered with. -/
abbrev zW : ℕ → FVec Ideal S32x1024 .f32 := slab (K := 300) (by decide) (W c (Proc.devRef .tc main_v5_0))

/-- The starts of trip `k`'s cut: the counter, which is `k`, and two zeros. -/
theorem starts {k : ℕ} (hk : k < 300) : ∀ a, ((![fun _ => Scf.iv 0#32 1#32 k, constantI S_ 32 0#32, constantI S_ 32 0#32] : Fin 3 → IVec S_ 32) a
    (Shape.Idx.first h_S_)).toInt = ((![k, 0, 0] : Fin 3 → ℕ) a : Int)
  | ⟨0, _⟩ => by
    have := Scf.toInt_iv (lb := 0#32) (ub := 300#32) (st := 1#32) (by decide) (k := k) (show k ≤ Scf.trips 0#32 300#32 1#32 from hk.le)
    rw [show (0#32 : BitVec 32).toInt = 0 by decide, show (1#32 : BitVec 32).toInt = 1 by decide] at this
    show (Scf.iv 0#32 1#32 k).toInt = (k : Int)
    omega
  | ⟨1, _⟩ => rfl
  | ⟨2, _⟩ => rfl

/-- Before trip `k`, the currents and the spikes so far, the counter starting at 0. -/
theorem atK_values (hW : ∀ c, W c (Proc.devRef .tc main_v5_1) = fun _ => (0#32 : BitVec 32)) : ∀ k ≤ 300,
    atK W k c (Proc.devRef .tc main_v5_2) = uAt (zW W c) (W c (Proc.devRef .tc main_v5_2)) k
      ∧ atK W k c (Proc.devRef .tc main_v5_3) = rAt (zW W c) (W c (Proc.devRef .tc main_v5_2)) (W c (Proc.devRef .tc main_v5_3)) k
      ∧ atK W k c (Proc.devRef .tc main_v5_4)
          = stackTo (spikeAt (zW W c) (W c (Proc.devRef .tc main_v5_2)) (W c (Proc.devRef .tc main_v5_3))) (W c (Proc.devRef .tc main_v5_4)) k
  | 0, _ => ⟨rfl, rfl, (stackTo_zero _ _).symm⟩
  | k + 1, hk => by
    obtain ⟨hu, hr, hs⟩ := atK_values hW k (by omega)
    have hZ : atK W k c (Proc.devRef .tc main_v5_0) = W c (Proc.devRef .tc main_v5_0) :=
      atK_keep W main_v5_0 (by decide +kernel) (by decide +kernel) (by decide +kernel) (by decide +kernel) (by decide +kernel) c k
    have hi := atK_ctr W hW c k
    have hcond : ∀ b, b ∉ cond0_W → after cond0 (atK W k c) (Proc.devRef .tc b) = atK W k c (Proc.devRef .tc b) :=
      fun b hb => after_of_writes_sub cond0 _ cond0_writes hb
    have hslice : ∀ b, b ∉ slice0_W → ∀ X : Valuation τ sig (Elt Ideal), after slice0 X (Proc.devRef .tc b) = X (Proc.devRef .tc b) :=
      fun b hb X => after_of_writes_sub slice0 X slice0_writes hb
    have hstep : ∀ b, b ∉ step0_W → ∀ X : Valuation τ sig (Elt Ideal), after step0 X (Proc.devRef .tc b) = X (Proc.devRef .tc b) :=
      fun b hb X => after_of_writes_sub step0 X step0_writes hb
    have hput : ∀ b, b ∉ put0_W → ∀ X : Valuation τ sig (Elt Ideal), after put0 X (Proc.devRef .tc b) = X (Proc.devRef .tc b) :=
      fun b hb X => after_of_writes_sub put0 X put0_writes hb
    have hz : after slice0 (after cond0 (atK W k c)) (Proc.devRef .tc main_while0b_v14) = zW W c k := by
      rw [slice_read, hcond main_v5_0 (by decide +kernel), hcond main_v5_1 (by decide +kernel), hZ, hi]
      exact slice_slab (by decide) _ _ _ _ (by omega) (starts (by omega))
    have hu' : after slice0 (after cond0 (atK W k c)) (Proc.devRef .tc main_v5_2) = uAt (zW W c) (W c (Proc.devRef .tc main_v5_2)) k := by
      rw [hslice main_v5_2 (by decide +kernel), hcond main_v5_2 (by decide +kernel), hu]
    have hr' : after slice0 (after cond0 (atK W k c)) (Proc.devRef .tc main_v5_3)
        = rAt (zW W c) (W c (Proc.devRef .tc main_v5_2)) (W c (Proc.devRef .tc main_v5_3)) k := by
      rw [hslice main_v5_3 (by decide +kernel), hcond main_v5_3 (by decide +kernel), hr]
    rw [show atK W (k + 1) c = afterL body0 (after cond0 (atK W k c)) from rfl]
    simp only [afterL_cons, afterL_nil]
    refine ⟨?_, ?_, ?_⟩
    · rw [carry_u, hput main_while0b_v17 (by decide +kernel), u_read, hz, hu']; rfl
    · rw [carry_r, hput main_while0b_v38 (by decide +kernel), r_read, hz, hu', hr', hostSpike_eq]; rfl
    · rw [carry_s, put_read, hstep main_v5_4 (by decide +kernel), hslice main_v5_4 (by decide +kernel), hcond main_v5_4 (by decide +kernel), hs,
        hstep main_v5_1 (by decide +kernel), hslice main_v5_1 (by decide +kernel), hcond main_v5_1 (by decide +kernel), hi,
        spike_read, hz, hu', hr', hostSpike_eq]
      exact put_stackTo _ _ _ _ _ (by omega) (starts (by omega))

/-- After the loop the array of spikes is the stack of every step's spikes. -/
theorem spikes (hW : ∀ c, W c (Proc.devRef .tc main_v5_1) = fun _ => (0#32 : BitVec 32)) :
    after cond0 (atTrip cond0 body0 W 300 c) (Proc.devRef .tc main_v5_4)
      = stack (K := 300) (spikeAt (zW W c) (W c (Proc.devRef .tc main_v5_2)) (W c (Proc.devRef .tc main_v5_3))) := by
  rw [after_of_writes_sub cond0 _ cond0_writes (show main_v5_4 ∉ cond0_W by decide +kernel)]
  exact (atK_values W c hW 300 le_rfl).2.2.trans (stackTo_all _ _)

end Trips

end Cert.ReferenceIdeal.Loop1

end
-- ==== Proof.Reference.Values2.lean ====
/- The reference's second time loop, its values over the extended reals: before trip `k` the carried membrane and refractory currents
   are the recurrence's after `k` steps, and the array of spikes holds the first `k` steps' spikes. -/
module

public import proofs.«01_k».proof.Proof.Reference.Loop2
public import proofs.«01_k».proof.Proof.Reference.Step
public import Idealize.ShloMosaic.Lib.Pipeline.RegionsLoop

@[expose] public section

noncomputable section

namespace Cert.ReferenceIdeal.Loop2

open Idealize.ShloMosaic Idealize.ShloMosaic.TcCoe Idealize.SL.Sem
open Idealize.ShloMosaic.StableHlo
open Cert.ReferenceIdeal Cert.ReferenceIdeal.Gen Cert.ReferenceIdeal.Ops Cert.Slayer

section Reads

variable {F : FTy → Type} [FloatOps F] (X : Valuation τ sig (Elt F))

/-- The step's products are cut out of the array of all products at the counter. -/
theorem slice_read :
    after slice1 X (Proc.devRef .tc main_while1b_v14)
      = shapeCast S32x512 (Host.dynamicSlice S1x32x512 (X (Proc.devRef .tc main_v12_0))
          (fun k => ((![X (Proc.devRef .tc main_v12_1), constantI S_ 32 0#32, constantI S_ 32 0#32] : Fin 3 → IVec S_ 32) k
            (Shape.Idx.first h_S_)).toInt)
          sliceFits_S300x32x512_S1x32x512) shapeCasts_S1x32x512_S32x512 := by
  after_reads_simp [unaryIndexed_result_read, indexContents_tref_cons, indexContents_tref_empty]
  rfl

/-- The new membrane current. -/
theorem u_read :
    after step1 X (Proc.devRef .tc main_while1b_v17) = uNext (X (Proc.devRef .tc main_while1b_v14)) (X (Proc.devRef .tc main_v12_2)) := by
  after_reads_simp
  rfl

/-- The step's spikes. -/
theorem spike_read :
    after step1 X (Proc.devRef .tc main_while1b_v33)
      = hostSpike (X (Proc.devRef .tc main_while1b_v14)) (X (Proc.devRef .tc main_v12_2)) (X (Proc.devRef .tc main_v12_3)) := by
  after_reads_simp
  rfl

/-- The new refractory current. -/
theorem r_read :
    after step1 X (Proc.devRef .tc main_while1b_v38)
      = subf (mulf (broadcast S32x512 (Scalar.ofBits .f32 0x3F1B4598#32)) (X (Proc.devRef .tc main_v12_3)))
          (mulf (broadcast S32x512 (Scalar.ofBits .f32 0x41A00000#32))
            (hostSpike (X (Proc.devRef .tc main_while1b_v14)) (X (Proc.devRef .tc main_v12_2)) (X (Proc.devRef .tc main_v12_3)))) := by
  after_reads_simp
  rfl

/-- The step's spikes are put into the array of spikes at the counter. -/
theorem put_read :
    after put1 X (Proc.devRef .tc main_while1b_v39)
      = Host.dynamicUpdateSlice (X (Proc.devRef .tc main_v12_4))
          (broadcastInDim S1x32x512 ![1, 2] bcast_S32x512_S1x32x512_1_2 (X (Proc.devRef .tc main_while1b_v33)))
          (fun k => ((![X (Proc.devRef .tc main_v12_1), constantI S_ 32 0#32, constantI S_ 32 0#32] : Fin 3 → IVec S_ 32) k
            (Shape.Idx.first h_S_)).toInt)
          updateFits_S300x32x512_S1x32x512 := by
  after_reads_simp [binaryIndexed_result_read, indexContents_tref_cons, indexContents_tref_empty]
  rfl

/-- The three values handed on to the next trip. -/
theorem carry_u : after carry1 X (Proc.devRef .tc main_v12_2) = X (Proc.devRef .tc main_while1b_v17) := by after_reads_simp; rfl
theorem carry_r : after carry1 X (Proc.devRef .tc main_v12_3) = X (Proc.devRef .tc main_while1b_v38) := by after_reads_simp; rfl
theorem carry_s : after carry1 X (Proc.devRef .tc main_v12_4) = X (Proc.devRef .tc main_while1b_v39) := by after_reads_simp; rfl

end Reads

section Trips

variable (W : Dev nD → Valuation τ sig (Elt Ideal)) (c : Dev nD)

/-- The products of step `k`, cut out of the array the loop is entered with. -/
abbrev zW : ℕ → FVec Ideal S32x512 .f32 := slab (K := 300) (by decide) (W c (Proc.devRef .tc main_v12_0))

/-- The starts of trip `k`'s cut: the counter, which is `k`, and two zeros. -/
theorem starts {k : ℕ} (hk : k < 300) : ∀ a, ((![fun _ => Scf.iv 0#32 1#32 k, constantI S_ 32 0#32, constantI S_ 32 0#32] : Fin 3 → IVec S_ 32) a
    (Shape.Idx.first h_S_)).toInt = ((![k, 0, 0] : Fin 3 → ℕ) a : Int)
  | ⟨0, _⟩ => by
    have := Scf.toInt_iv (lb := 0#32) (ub := 300#32) (st := 1#32) (by decide) (k := k) (show k ≤ Scf.trips 0#32 300#32 1#32 from hk.le)
    rw [show (0#32 : BitVec 32).toInt = 0 by decide, show (1#32 : BitVec 32).toInt = 1 by decide] at this
    show (Scf.iv 0#32 1#32 k).toInt = (k : Int)
    omega
  | ⟨1, _⟩ => rfl
  | ⟨2, _⟩ => rfl

/-- Before trip `k`, the currents and the spikes so far, the counter starting at 0. -/
theorem atK_values (hW : ∀ c, W c (Proc.devRef .tc main_v12_1) = fun _ => (0#32 : BitVec 32)) : ∀ k ≤ 300,
    atK W k c (Proc.devRef .tc main_v12_2) = uAt (zW W c) (W c (Proc.devRef .tc main_v12_2)) k
      ∧ atK W k c (Proc.devRef .tc main_v12_3) = rAt (zW W c) (W c (Proc.devRef .tc main_v12_2)) (W c (Proc.devRef .tc main_v12_3)) k
      ∧ atK W k c (Proc.devRef .tc main_v12_4)
          = stackTo (spikeAt (zW W c) (W c (Proc.devRef .tc main_v12_2)) (W c (Proc.devRef .tc main_v12_3))) (W c (Proc.devRef .tc main_v12_4)) k
  | 0, _ => ⟨rfl, rfl, (stackTo_zero _ _).symm⟩
  | k + 1, hk => by
    obtain ⟨hu, hr, hs⟩ := atK_values hW k (by omega)
    have hZ : atK W k c (Proc.devRef .tc main_v12_0) = W c (Proc.devRef .tc main_v12_0) :=
      atK_keep W main_v12_0 (by decide +kernel) (by decide +kernel) (by decide +kernel) (by decide +kernel) (by decide +kernel) c k
    have hi := atK_ctr W hW c k
    have hcond : ∀ b, b ∉ cond1_W → after cond1 (atK W k c) (Proc.devRef .tc b) = atK W k c (Proc.devRef .tc b) :=
      fun b hb => after_of_writes_sub cond1 _ cond1_writes hb
    have hslice : ∀ b, b ∉ slice1_W → ∀ X : Valuation τ sig (Elt Ideal), after slice1 X (Proc.devRef .tc b) = X (Proc.devRef .tc b) :=
      fun b hb X => after_of_writes_sub slice1 X slice1_writes hb
    have hstep : ∀ b, b ∉ step1_W → ∀ X : Valuation τ sig (Elt Ideal), after step1 X (Proc.devRef .tc b) = X (Proc.devRef .tc b) :=
      fun b hb X => after_of_writes_sub step1 X step1_writes hb
    have hput : ∀ b, b ∉ put1_W → ∀ X : Valuation τ sig (Elt Ideal), after put1 X (Proc.devRef .tc b) = X (Proc.devRef .tc b) :=
      fun b hb X => after_of_writes_sub put1 X put1_writes hb
    have hz : after slice1 (after cond1 (atK W k c)) (Proc.devRef .tc main_while1b_v14) = zW W c k := by
      rw [slice_read, hcond main_v12_0 (by decide +kernel), hcond main_v12_1 (by decide +kernel), hZ, hi]
      exact slice_slab (by decide) _ _ _ _ (by omega) (starts (by omega))
    have hu' : after slice1 (after cond1 (atK W k c)) (Proc.devRef .tc main_v12_2) = uAt (zW W c) (W c (Proc.devRef .tc main_v12_2)) k := by
      rw [hslice main_v12_2 (by decide +kernel), hcond main_v12_2 (by decide +kernel), hu]
    have hr' : after slice1 (after cond1 (atK W k c)) (Proc.devRef .tc main_v12_3)
        = rAt (zW W c) (W c (Proc.devRef .tc main_v12_2)) (W c (Proc.devRef .tc main_v12_3)) k := by
      rw [hslice main_v12_3 (by decide +kernel), hcond main_v12_3 (by decide +kernel), hr]
    rw [show atK W (k + 1) c = afterL body1 (after cond1 (atK W k c)) from rfl]
    simp only [afterL_cons, afterL_nil]
    refine ⟨?_, ?_, ?_⟩
    · rw [carry_u, hput main_while1b_v17 (by decide +kernel), u_read, hz, hu']; rfl
    · rw [carry_r, hput main_while1b_v38 (by decide +kernel), r_read, hz, hu', hr', hostSpike_eq]; rfl
    · rw [carry_s, put_read, hstep main_v12_4 (by decide +kernel), hslice main_v12_4 (by decide +kernel), hcond main_v12_4 (by decide +kernel), hs,
        hstep main_v12_1 (by decide +kernel), hslice main_v12_1 (by decide +kernel), hcond main_v12_1 (by decide +kernel), hi,
        spike_read, hz, hu', hr', hostSpike_eq]
      exact put_stackTo _ _ _ _ _ (by omega) (starts (by omega))

/-- After the loop the array of spikes is the stack of every step's spikes. -/
theorem spikes (hW : ∀ c, W c (Proc.devRef .tc main_v12_1) = fun _ => (0#32 : BitVec 32)) :
    after cond1 (atTrip cond1 body1 W 300 c) (Proc.devRef .tc main_v12_4)
      = stack (K := 300) (spikeAt (zW W c) (W c (Proc.devRef .tc main_v12_2)) (W c (Proc.devRef .tc main_v12_3))) := by
  rw [after_of_writes_sub cond1 _ cond1_writes (show main_v12_4 ∉ cond1_W by decide +kernel)]
  exact (atK_values W c hW 300 le_rfl).2.2.trans (stackTo_all _ _)

end Trips

end Cert.ReferenceIdeal.Loop2

end
-- ==== Proof.Reference.Value.lean ====
/- The reference's result over the extended reals is the network `Slayer.net` of its three arguments. -/
module

public import proofs.«01_k».proof.Proof.Reference.Run
public import proofs.«01_k».proof.Proof.Reference.Values1
public import proofs.«01_k».proof.Proof.Reference.Values2
public import proofs.«01_k».proof.Proof.Spec
public import Idealize.ShloMosaic.Lib.Pointwise.Contract

@[expose] public section

noncomputable section

namespace Cert.ReferenceIdeal.Run

open Idealize.ShloMosaic hiding ix2 ix3
open Idealize.ShloMosaic.TcCoe Idealize.ShloMosaic.ValueIdx Idealize.SL.Sem
open Idealize.ShloMosaic.StableHlo
open Cert.ReferenceIdeal Cert.ReferenceIdeal.Gen Cert.ReferenceIdeal.Ops Cert.Slayer
open scoped BigOperators

/-- The first layer's products, time first, as the reference computes them. -/
abbrev products1 {F : FTy → Type} [FloatOps F] (x : FVec F S32x2048x300 .f32) (w : FVec F S1024x2048 .f32) : FVec F S300x32x1024 .f32 :=
  transpose S300x32x1024 [2, 0, 1] (transpose S32x1024x300 [1, 0, 2]
    (Host.dotGeneral dot_S1024x2048_S32x2048x300_S1024x32x300_1_1_0_02_n_n none w x) transposes_S1024x32x300_S32x1024x300_1_0_2)
    transposes_S32x1024x300_S300x32x1024_2_0_1

/-- The second layer's. -/
abbrev products2 {F : FTy → Type} [FloatOps F] (x : FVec F S32x1024x300 .f32) (w : FVec F S512x1024 .f32) : FVec F S300x32x512 .f32 :=
  transpose S300x32x512 [2, 0, 1] (transpose S32x512x300 [1, 0, 2]
    (Host.dotGeneral dot_S512x1024_S32x1024x300_S512x32x300_1_1_0_02_n_n none w x) transposes_S512x32x300_S32x512x300_1_0_2)
    transposes_S32x512x300_S300x32x512_2_0_1

/-- Step `k` of the first layer's products is `zOf` of the input read time first. -/
theorem slab_products1 (x : FVec Ideal S32x2048x300 .f32) (w : FVec Ideal S1024x2048 .f32) :
    slab (K := 300) (by decide) (products1 x w) = zOf (K := 300) (by decide) (timeFirst x) w := by
  funext k y
  have hk : k % 300 < 300 := Nat.mod_lt _ (by decide)
  refine (congrFun (transpose_timeFirst _ transposes_S32x1024x300_S300x32x1024_2_0_1) (ix3 (⟨k % 300, hk⟩ : Fin 300) (y 0) (y 1))).trans ?_
  refine (transpose_apply _ _ transposes_S1024x32x300_S32x1024x300_1_0_2 _ (ix3 (y 1) (y 0) (⟨k % 300, hk⟩ : Fin 300)) fun c => match c with
    | ⟨0, _⟩ => rfl | ⟨1, _⟩ => rfl | ⟨2, _⟩ => rfl).trans ?_
  refine (Ideal.matmul_apply₁_of dot_S1024x2048_S32x2048x300_S1024x32x300_1_1_0_02_n_n rfl (K := 2048) rfl w x (fun _ => 0) _
    (fun i => ix2 (y 1) i) (fun i => ix3 (y 0) i (⟨k % 300, hk⟩ : Fin 300)) (fun i => ?_) (fun i => ?_)).trans (zero_add _)
  · funext a
    match a with
    | ⟨0, _⟩ => rfl
    | ⟨1, _⟩ => rfl
  · funext a
    match a with
    | ⟨0, _⟩ => rfl
    | ⟨1, _⟩ => rfl
    | ⟨2, _⟩ => rfl

/-- Step `k` of the second layer's products is `zOf` of its input read time first. -/
theorem slab_products2 (x : FVec Ideal S32x1024x300 .f32) (w : FVec Ideal S512x1024 .f32) :
    slab (K := 300) (by decide) (products2 x w) = zOf (K := 300) (by decide) (timeFirst x) w := by
  funext k y
  have hk : k % 300 < 300 := Nat.mod_lt _ (by decide)
  refine (congrFun (transpose_timeFirst _ transposes_S32x512x300_S300x32x512_2_0_1) (ix3 (⟨k % 300, hk⟩ : Fin 300) (y 0) (y 1))).trans ?_
  refine (transpose_apply _ _ transposes_S512x32x300_S32x512x300_1_0_2 _ (ix3 (y 1) (y 0) (⟨k % 300, hk⟩ : Fin 300)) fun c => match c with
    | ⟨0, _⟩ => rfl | ⟨1, _⟩ => rfl | ⟨2, _⟩ => rfl).trans ?_
  refine (Ideal.matmul_apply₁_of dot_S512x1024_S32x1024x300_S512x32x300_1_1_0_02_n_n rfl (K := 1024) rfl w x (fun _ => 0) _
    (fun i => ix2 (y 1) i) (fun i => ix3 (y 0) i (⟨k % 300, hk⟩ : Fin 300)) (fun i => ?_) (fun i => ?_)).trans (zero_add _)
  · funext a
    match a with
    | ⟨0, _⟩ => rfl
    | ⟨1, _⟩ => rfl
  · funext a
    match a with
    | ⟨0, _⟩ => rfl
    | ⟨1, _⟩ => rfl
    | ⟨2, _⟩ => rfl

/-! ## What the stretches leave, from any contents -/

section Reads

variable (X : Valuation τ sig (Elt Ideal))

theorem before_z : after before0 X (Proc.devRef .tc main_v5_0)
    = products1 (F := Ideal) (X (Proc.devRef .tc main_arg0)) (X (Proc.devRef .tc main_arg1)) := by after_reads_simp; rfl
theorem before_u : after before0 X (Proc.devRef .tc main_v5_2) = rest 32 1024 := by after_reads_simp; rfl
theorem before_r : after before0 X (Proc.devRef .tc main_v5_3) = rest 32 1024 := by after_reads_simp; rfl
theorem between_z : after between X (Proc.devRef .tc main_v12_0)
    = products2 (F := Ideal) (transpose S32x1024x300 [1, 2, 0] (X (Proc.devRef .tc main_v5_4)) transposes_S300x32x1024_S32x1024x300_1_2_0)
        (X (Proc.devRef .tc main_arg2)) := by after_reads_simp; rfl
theorem between_u : after between X (Proc.devRef .tc main_v12_2) = rest 32 512 := by after_reads_simp; rfl
theorem between_r : after between X (Proc.devRef .tc main_v12_3) = rest 32 512 := by after_reads_simp; rfl
theorem after_out : after after1 X (Proc.devRef .tc main_v13)
    = transpose S32x512x300 [1, 2, 0] (X (Proc.devRef .tc main_v12_4)) transposes_S300x32x512_S32x512x300_1_2_0 := by after_reads_simp

end Reads

/-! ## The result -/

variable (m : (ℓ : Loc nD τ sig) → Buf (Elt Ideal) ℓ) (c : Dev nD)

/-- The three arguments. -/
abbrev x : FVec Ideal S32x2048x300 .f32 := m ((c.tc : Thread nD τ).loc main_arg0)
abbrev w1 : FVec Ideal S1024x2048 .f32 := m ((c.tc : Thread nD τ).loc main_arg1)
abbrev w2 : FVec Ideal S512x1024 .f32 := m ((c.tc : Thread nD τ).loc main_arg2)

/-- After the first loop the array of spikes is the first layer's. -/
theorem W2_spikes : W2 m c (Proc.devRef .tc main_v5_4)
    = layer (K := 300) (by decide) (timeFirst (x m c)) (w1 m c) := by
  refine (Loop1.spikes (W1 m) c (W1_ctr m)).trans ?_
  unfold layer Loop1.zW W1
  rw [before_z, slab_products1, before_u, before_r]

/-- After the second loop, the second layer's. -/
theorem W4_spikes : W4 m c (Proc.devRef .tc main_v12_4)
    = layer (K := 300) (by decide) (layer (K := 300) (by decide) (timeFirst (x m c)) (w1 m c))
        (w2 m c) := by
  refine (Loop2.spikes (W3 m) c (W3_ctr m)).trans ?_
  unfold Loop2.zW W3
  rw [between_z, slab_products2, between_u, between_r, transpose_timeLast, timeFirst_timeLast, W2_spikes, W2_args m c main_arg2 (by simp)]
  rfl

/-- The reference's result. -/
theorem result : W5 m c (Proc.devRef .tc main_v13)
    = net (K := 300) (by decide) (x m c) (w1 m c) (w2 m c) := by
  rw [show W5 m c = after after1 (W4 m c) from rfl, after_out, W4_spikes, transpose_timeLast]
  rfl

end Cert.ReferenceIdeal.Run

end
-- ==== Proof.Algebraic.lean ====
/-
  The two ideal forms, from memories that agree on the arguments: both run, and both leave the network `Slayer.net` of the
  arguments in their result array. With it the frames under the precondition, which are the frames from any memory.
-/
module

public import proofs.«01_k».proof.Proof.Value
public import proofs.«01_k».proof.Proof.Reference.Value
public import proofs.«01_k».proof.Proof.Frames

@[expose] public section

namespace Cert.Algebraic

open Idealize.ShloMosaic Idealize.ShloMosaic.TcCoe Idealize.SL.Sem

/-- The precondition's program uses only that 8 bits are fewer than 32. -/
theorem facts : Cert.Pre_spikes_are_int8_values.Facts := ⟨by decide⟩

variable [Cert.Pre_spikes_are_int8_values.Facts]

/-- The frame of the kernel's ideal form, under the precondition. -/
theorem kernelIdeal : Cert.quiescent_KernelIdeal_pre_spikes_are_int8_values := fun m g _ => Frames.frame m g

/-- The frame of the reference's ideal form, under the precondition. -/
theorem referenceIdeal : Cert.quiescent_ReferenceIdeal_pre_spikes_are_int8_values := fun m g _ =>
  Frames.referenceIdeal m g trivial

/-- Kernel and reference leave equal results: the network of the arguments. -/
theorem algebraic : Cert.algebraic_KernelIdeal_ReferenceIdeal_pre_spikes_are_int8_values := by
  intro m g m' g' hpre hargs
  refine ⟨fun c => Slayer.net (K := 300) (by decide) (KernelIdeal.Run.x m c) (KernelIdeal.Run.w1 m c) (KernelIdeal.Run.w2 m c), ?_, ?_⟩
  · refine (θ_run KernelIdeal.defs _ _).mono (fun r h c => ⟨(h.1 c).1.trans ?_, (h.1 c).2 _ (by decide), (h.1 c).2 _ (by decide),
      (h.1 c).2 _ (by decide)⟩) (KernelIdeal.Run.run m g)
    exact KernelIdeal.Run.result m g c (hpre c)
  · refine (θ_run ReferenceIdeal.defs _ _).mono (fun r h c => ⟨(h.1 c).1.trans ?_, (h.1 c).2 _ (by decide), (h.1 c).2 _ (by decide),
      (h.1 c).2 _ (by decide)⟩) (ReferenceIdeal.Run.run (F := Ideal) m' g')
    rw [ReferenceIdeal.Run.result]
    unfold ReferenceIdeal.Run.x ReferenceIdeal.Run.w1 ReferenceIdeal.Run.w2
    rw [(hargs c).1, (hargs c).2.1, (hargs c).2.2]

end Cert.Algebraic
-- ==== Proof.lean ====
/- The proof of the claim: each part is proved in the modules imported here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claim: the programs' stated facts, the frames, the ideal form's being the kernel as written, and the equality of the
    kernel's and the reference's results over the extended reals. -/
theorem claim : Cert.Claim :=
  haveI := Cert.Algebraic.facts
  ⟨Cert.Kernel.Gen.facts, Cert.KernelIdeal.Gen.facts, Cert.ReferenceIdeal.Gen.facts, Cert.Algebraic.facts,
    Cert.Frames.kernel, Cert.Frames.kernelIdeal, Cert.Algebraic.kernelIdeal, Cert.Frames.referenceIdeal, Cert.Algebraic.referenceIdeal,
    trivial, Cert.Algebraic.algebraic⟩

end Cert.Proof
